-- ==== Defs.lean ====
def Pre_Kernel [hPre_idx_in_rows : Cert.Pre_idx_in_rows.Facts] (m : (ℓ : Loc Cert.Kernel.nD Cert.Kernel.τ Cert.Kernel.sig) → Buf (Elt Bits) ℓ) : Prop :=
  ∀ c : Dev Cert.Kernel.nD,
    (Cert.Pre_idx_in_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_idx_in_rows : Cert.Pre_idx_in_rows.Facts] (m : (ℓ : Loc Cert.KernelIdeal.nD Cert.KernelIdeal.τ Cert.KernelIdeal.sig) → Buf (Elt Ideal) ℓ) : Prop :=
  ∀ c : Dev Cert.KernelIdeal.nD,
    (Cert.Pre_idx_in_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_idx_in_rows [hPre_idx_in_rows : Cert.Pre_idx_in_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_idx_in_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_idx_in_rows : Cert.Pre_idx_in_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_idx_in_rows : Cert.Pre_idx_in_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_idx_in_rows [hReferenceIdeal : Cert.ReferenceIdeal.Facts] [hPre_idx_in_rows : Cert.Pre_idx_in_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_idx_in_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_idx_in_rows : Cert.Pre_idx_in_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_idx_in_rows : Cert.Pre_idx_in_rows.Facts),
    quiescent_Kernel (hKernel := hKernel) (hPre_idx_in_rows := hPre_idx_in_rows)
    ∧ quiescent_KernelIdeal (hKernelIdeal := hKernelIdeal) (hPre_idx_in_rows := hPre_idx_in_rows)
    ∧ quiescent_ReferenceIdeal (hReferenceIdeal := hReferenceIdeal)
    ∧ quiescent_ReferenceIdeal_pre_idx_in_rows (hReferenceIdeal := hReferenceIdeal) (hPre_idx_in_rows := hPre_idx_in_rows)
    ∧ preserves_Kernel_KernelIdeal
    ∧ algebraic_KernelIdeal_ReferenceIdeal (hKernelIdeal := hKernelIdeal) (hReferenceIdeal := hReferenceIdeal) (hPre_idx_in_rows := hPre_idx_in_rows)
-- ==== Pre_idx_in_rows.lean ====
abbrev S100000x128 : Shape := ⟨2, ![100000, 128]⟩
abbrev S500000x128 : Shape := ⟨2, ![500000, 128]⟩
abbrev S500000 : Shape := ⟨1, ![500000]⟩
abbrev S_ : Shape := ⟨0, ![]⟩

class Facts : Prop where
  bcast_S_S500000 : S_.BroadcastsInDim S500000 (![] : Fin 0 → Fin S500000.rank)
  reducesTo_S500000_S_d0 : S500000.ReducesTo [0] S_
  h_S_ : 0 < S_.numel

variable [Facts]

def fn {F : FTy → Type} [FloatOps F] (main_arg0 : FVec F S100000x128 .f32) (main_arg1 : FVec F S500000x128 .f32) (main_arg2 : IVec S500000 32) : IVec S_ 1 :=
  let main_c : IVec S_ 32 := constantI S_ 32 0#32
  let main_v0 : IVec S500000 32 := broadcastInDim S500000 ![] bcast_S_S500000 main_c
  let main_v1 : IVec S500000 1 := cmpi .sge main_arg2 main_v0
  let main_c_0 : IVec S_ 32 := constantI S_ 32 100000#32
  let main_v2 : IVec S500000 32 := broadcastInDim S500000 ![] bcast_S_S500000 main_c_0
  let main_v3 : IVec S500000 1 := cmpi .slt main_arg2 main_v2
  let main_v4 : IVec S500000 1 := andi main_v1 main_v3
  let main_c_1 : IVec S_ 1 := constantI S_ 1 1#1
  let main_v5 : IVec S_ 1 := (fun x v => Host.reduce IntOp.andi x v reducesTo_S500000_S_d0 h_S_) main_v4 main_c_1
  main_v5
-- ==== Kernel.lean ====
abbrev S100000x128 : Shape := ⟨2, ![100000, 128]⟩
abbrev S500000x128 : Shape := ⟨2, ![500000, 128]⟩
abbrev S500000 : Shape := ⟨1, ![500000]⟩
abbrev S15872 : Shape := ⟨1, ![15872]⟩
abbrev S128x128 : Shape := ⟨2, ![128, 128]⟩
abbrev S_ : Shape := ⟨0, ![]⟩
abbrev S15616 : Shape := ⟨1, ![15616]⟩
abbrev S128 : Shape := ⟨1, ![128]⟩
abbrev S1x16 : Shape := ⟨2, ![1, 16]⟩
abbrev S16 : Shape := ⟨1, ![16]⟩
abbrev S32 : Shape := ⟨1, ![32]⟩
abbrev S32x128 : Shape := ⟨2, ![32, 128]⟩

abbrev nBuf : Table → Nat
  | .hbm => 4
  | .local .scVector .vmem => 7
  | _ => 0

abbrev bufTy : (tb : Table) → Fin (nBuf tb) → BufTy
  | .hbm, ⟨0, _⟩ => ⟨S100000x128, .f32⟩
  | .hbm, ⟨1, _⟩ => ⟨S500000x128, .f32⟩
  | .hbm, ⟨2, _⟩ => ⟨S500000, .i32⟩
  | .hbm, ⟨3, _⟩ => ⟨S500000x128, .f32⟩
  | .local .scVector .vmem, ⟨0, _⟩ => ⟨S15872, .i32⟩
  | .local .scVector .vmem, ⟨1, _⟩ => ⟨S128x128, .f32⟩
  | .local .scVector .vmem, ⟨2, _⟩ => ⟨S128x128, .f32⟩
  | .local .scVector .vmem, ⟨3, _⟩ => ⟨S128x128, .f32⟩
  | .local .scVector .vmem, ⟨4, _⟩ => ⟨S128x128, .f32⟩
  | .local .scVector .vmem, ⟨5, _⟩ => ⟨S128x128, .f32⟩
  | .local .scVector .vmem, ⟨6, _⟩ => ⟨S128x128, .f32⟩
  | _, _ => ⟨S100000x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 15 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | _ => false

abbrev sig : RefSig :=
  ofTables nBuf rfl bufTy 4 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_v0_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c122_i32_1 : BitVec 32 := 122#32
  let v5 : BitVec 32 := Scalar.muli v1 c122_i32_1
  let c2_i32_2 : BitVec 32 := 2#32
  let v6 : BitVec 32 := Scalar.minsi v1 c2_i32_2
  let v7 : BitVec 32 := Scalar.addi v5 v6
  let c128_i32 : BitVec 32 := 128#32
  let v8 : BitVec 32 := Scalar.muli v7 c128_i32
  ![v8.toNat]
def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_3 : BitVec 32 := 2#32
  let v9 : BitVec 1 := Scalar.cmpi .slt v1 c2_i32_3
  let v10 : BitVec 32 := Scalar.extui v9
  let c0_i32 : BitVec 32 := 0#32
  let v11 : BitVec 1 := Scalar.cmpi .ne v10 c0_i32
  v11

def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c122_i32_1 : BitVec 32 := 122#32
  let v5 : BitVec 32 := Scalar.muli v1 c122_i32_1
  let c2_i32_2 : BitVec 32 := 2#32
  let v6 : BitVec 32 := Scalar.minsi v1 c2_i32_2
  let v7 : BitVec 32 := Scalar.addi v5 v6
  let c122_i32_23 : BitVec 32 := 122#32
  let v26 : BitVec 32 := Scalar.addi v7 c122_i32_23
  let c128_i32_24 : BitVec 32 := 128#32
  let v27 : BitVec 32 := Scalar.muli v26 c128_i32_24
  ![v27.toNat]
def k0_cond2 (i : grid0.Coords) : BitVec 1 :=
  let c122_i32 : BitVec 32 := 122#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 1 := Scalar.cmpi .slt v1 c2_i32_0
  let v3 : BitVec 32 := Scalar.extui v2
  let v4 : BitVec 32 := Scalar.addi c122_i32 v3
  let c0_i32_4 : BitVec 32 := 0#32
  let v12 : BitVec 1 := Scalar.cmpi .sgt v4 c0_i32_4
  let v13 : BitVec 32 := Scalar.extui v12
  let c0_i32_5 : BitVec 32 := 0#32
  let v14 : BitVec 1 := Scalar.cmpi .ne v13 c0_i32_5
  v14

def k0_off3 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c122_i32_1 : BitVec 32 := 122#32
  let v5 : BitVec 32 := Scalar.muli v1 c122_i32_1
  let c2_i32_2 : BitVec 32 := 2#32
  let v6 : BitVec 32 := Scalar.minsi v1 c2_i32_2
  let v7 : BitVec 32 := Scalar.addi v5 v6
  let c0_i32_26 : BitVec 32 := 0#32
  let v28 : BitVec 32 := Scalar.addi v7 c0_i32_26
  let c128_i32_27 : BitVec 32 := 128#32
  let v29 : BitVec 32 := Scalar.muli v28 c128_i32_27
  let c0_i32_28 : BitVec 32 := 0#32
  ![v29.toNat, 0]
@[reducible] def k0_t1_loop : Scf.Loop 32 :=
  let c0_i32_7 : BitVec 32 := 0#32
  let c42_i32 : BitVec 32 := 42#32
  let v15 : BitVec 32 := Scalar.addi c0_i32_7 c42_i32
  let c1_i32 : BitVec 32 := 1#32
  ⟨c0_i32_7, v15, c1_i32⟩
def k0_cond3 (i : grid0.Coords) (k0_t1 : Fin k0_t1_loop.trips) : BitVec 1 :=
  let c1_i32_23 : BitVec 32 := 1#32
  let c3_i32 : BitVec 32 := 3#32
  let c0_i32_7 : BitVec 32 := 0#32
  let c1_i32 : BitVec 32 := 1#32
  let arg23 : BitVec 32 := Scf.iv c0_i32_7 c1_i32 k0_t1
  let v26 : BitVec 32 := Scalar.muli c3_i32 arg23
  let v27 : BitVec 32 := Scalar.addi c1_i32_23 v26
  let c0_i32_24 : BitVec 32 := 0#32
  let v28 : BitVec 32 := Scalar.addi v27 c0_i32_24
  let c122_i32 : BitVec 32 := 122#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 1 := Scalar.cmpi .slt v1 c2_i32_0
  let v3 : BitVec 32 := Scalar.extui v2
  let v4 : BitVec 32 := Scalar.addi c122_i32 v3
  let v29 : BitVec 1 := Scalar.cmpi .slt v28 v4
  let v30 : BitVec 32 := Scalar.extui v29
  let c0_i32_25 : BitVec 32 := 0#32
  let v31 : BitVec 1 := Scalar.cmpi .ne v30 c0_i32_25
  v31

def k0_off4 (k0_t1 : Fin k0_t1_loop.trips) : Fin 1 → Nat :=
  let c1_i32_23 : BitVec 32 := 1#32
  let c3_i32 : BitVec 32 := 3#32
  let c0_i32_7 : BitVec 32 := 0#32
  let c1_i32 : BitVec 32 := 1#32
  let arg23 : BitVec 32 := Scf.iv c0_i32_7 c1_i32 k0_t1
  let v26 : BitVec 32 := Scalar.muli c3_i32 arg23
  let v27 : BitVec 32 := Scalar.addi c1_i32_23 v26
  let c0_i32_24 : BitVec 32 := 0#32
  let v28 : BitVec 32 := Scalar.addi v27 c0_i32_24
  let c128_i32_43 : BitVec 32 := 128#32
  let v59 : BitVec 32 := Scalar.muli v28 c128_i32_43
  ![v59.toNat]
def k0_off5 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c122_i32_1 : BitVec 32 := 122#32
  let v5 : BitVec 32 := Scalar.muli v1 c122_i32_1
  let c2_i32_2 : BitVec 32 := 2#32
  let v6 : BitVec 32 := Scalar.minsi v1 c2_i32_2
  let v7 : BitVec 32 := Scalar.addi v5 v6
  let c1_i32_23 : BitVec 32 := 1#32
  let c3_i32 : BitVec 32 := 3#32
  let c0_i32_7 : BitVec 32 := 0#32
  let c1_i32 : BitVec 32 := 1#32
  let arg23 : BitVec 32 := Scf.iv c0_i32_7 c1_i32 k0_t1
  let v26 : BitVec 32 := Scalar.muli c3_i32 arg23
  let v27 : BitVec 32 := Scalar.addi c1_i32_23 v26
  let c0_i32_24 : BitVec 32 := 0#32
  let v28 : BitVec 32 := Scalar.addi v27 c0_i32_24
  let v62 : BitVec 32 := Scalar.addi v7 v28
  let c128_i32_46 : BitVec 32 := 128#32
  let v63 : BitVec 32 := Scalar.muli v62 c128_i32_46
  let c0_i32_47 : BitVec 32 := 0#32
  ![v63.toNat, 0]
def k0_cond5 (i : grid0.Coords) (k0_t1 : Fin k0_t1_loop.trips) : BitVec 1 :=
  let c1_i32_23 : BitVec 32 := 1#32
  let c3_i32 : BitVec 32 := 3#32
  let c0_i32_7 : BitVec 32 := 0#32
  let c1_i32 : BitVec 32 := 1#32
  let arg23 : BitVec 32 := Scf.iv c0_i32_7 c1_i32 k0_t1
  let v26 : BitVec 32 := Scalar.muli c3_i32 arg23
  let v27 : BitVec 32 := Scalar.addi c1_i32_23 v26
  let c0_i32_24 : BitVec 32 := 0#32
  let v28 : BitVec 32 := Scalar.addi v27 c0_i32_24
  let c1_i32_26 : BitVec 32 := 1#32
  let v32 : BitVec 32 := Scalar.subi v28 c1_i32_26
  let c122_i32 : BitVec 32 := 122#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 1 := Scalar.cmpi .slt v1 c2_i32_0
  let v3 : BitVec 32 := Scalar.extui v2
  let v4 : BitVec 32 := Scalar.addi c122_i32 v3
  let v33 : BitVec 1 := Scalar.cmpi .slt v32 v4
  let v34 : BitVec 32 := Scalar.extui v33
  let c0_i32_27 : BitVec 32 := 0#32
  let v35 : BitVec 1 := Scalar.cmpi .ne v34 c0_i32_27
  v35

@[reducible] def k0_t2_loop : Scf.Loop 32 :=
  let c0_i32_48 : BitVec 32 := 0#32
  let c128_i32_49 : BitVec 32 := 128#32
  let v60 : BitVec 32 := Scalar.addi c0_i32_48 c128_i32_49
  let c1_i32_50 : BitVec 32 := 1#32
  ⟨c0_i32_48, v60, c1_i32_50⟩
def k0_off6 (k0_t2 : Fin k0_t2_loop.trips) : Fin 2 → Nat :=
  let c0_i32_56 : BitVec 32 := 0#32
  let c0_i32_48 : BitVec 32 := 0#32
  let c1_i32_50 : BitVec 32 := 1#32
  let arg25 : BitVec 32 := Scf.iv c0_i32_48 c1_i32_50 k0_t2
  let c1_i32_55 : BitVec 32 := 1#32
  let v65 : BitVec 32 := Scalar.muli arg25 c1_i32_55
  let v66 : BitVec 32 := Scalar.addi c0_i32_56 v65
  let v67 : Index := Scalar.indexCast v66
  let c0 : Index := 0#32
  ![v67.toNat, 0]
def k0_off7 (k0_t2 : Fin k0_t2_loop.trips) : Fin 2 → Nat :=
  let c0_i32_56 : BitVec 32 := 0#32
  let c0_i32_48 : BitVec 32 := 0#32
  let c1_i32_50 : BitVec 32 := 1#32
  let arg25 : BitVec 32 := Scf.iv c0_i32_48 c1_i32_50 k0_t2
  let c1_i32_55 : BitVec 32 := 1#32
  let v65 : BitVec 32 := Scalar.muli arg25 c1_i32_55
  let v66 : BitVec 32 := Scalar.addi c0_i32_56 v65
  let v78 : Index := Scalar.indexCast v66
  let c16 : Index := 16#32
  ![v78.toNat, 16]
def k0_off8 (k0_t2 : Fin k0_t2_loop.trips) : Fin 2 → Nat :=
  let c0_i32_56 : BitVec 32 := 0#32
  let c0_i32_48 : BitVec 32 := 0#32
  let c1_i32_50 : BitVec 32 := 1#32
  let arg25 : BitVec 32 := Scf.iv c0_i32_48 c1_i32_50 k0_t2
  let c1_i32_55 : BitVec 32 := 1#32
  let v65 : BitVec 32 := Scalar.muli arg25 c1_i32_55
  let v66 : BitVec 32 := Scalar.addi c0_i32_56 v65
  let v89 : Index := Scalar.indexCast v66
  let c32 : Index := 32#32
  ![v89.toNat, 32]
def k0_off9 (k0_t2 : Fin k0_t2_loop.trips) : Fin 2 → Nat :=
  let c0_i32_56 : BitVec 32 := 0#32
  let c0_i32_48 : BitVec 32 := 0#32
  let c1_i32_50 : BitVec 32 := 1#32
  let arg25 : BitVec 32 := Scf.iv c0_i32_48 c1_i32_50 k0_t2
  let c1_i32_55 : BitVec 32 := 1#32
  let v65 : BitVec 32 := Scalar.muli arg25 c1_i32_55
  let v66 : BitVec 32 := Scalar.addi c0_i32_56 v65
  let v100 : Index := Scalar.indexCast v66
  let c48 : Index := 48#32
  ![v100.toNat, 48]
def k0_off10 (k0_t2 : Fin k0_t2_loop.trips) : Fin 2 → Nat :=
  let c0_i32_56 : BitVec 32 := 0#32
  let c0_i32_48 : BitVec 32 := 0#32
  let c1_i32_50 : BitVec 32 := 1#32
  let arg25 : BitVec 32 := Scf.iv c0_i32_48 c1_i32_50 k0_t2
  let c1_i32_55 : BitVec 32 := 1#32
  let v65 : BitVec 32 := Scalar.muli arg25 c1_i32_55
  let v66 : BitVec 32 := Scalar.addi c0_i32_56 v65
  let v111 : Index := Scalar.indexCast v66
  let c64 : Index := 64#32
  ![v111.toNat, 64]
def k0_off11 (k0_t2 : Fin k0_t2_loop.trips) : Fin 2 → Nat :=
  let c0_i32_56 : BitVec 32 := 0#32
  let c0_i32_48 : BitVec 32 := 0#32
  let c1_i32_50 : BitVec 32 := 1#32
  let arg25 : BitVec 32 := Scf.iv c0_i32_48 c1_i32_50 k0_t2
  let c1_i32_55 : BitVec 32 := 1#32
  let v65 : BitVec 32 := Scalar.muli arg25 c1_i32_55
  let v66 : BitVec 32 := Scalar.addi c0_i32_56 v65
  let v122 : Index := Scalar.indexCast v66
  let c80 : Index := 80#32
  ![v122.toNat, 80]
def k0_off12 (k0_t2 : Fin k0_t2_loop.trips) : Fin 2 → Nat :=
  let c0_i32_56 : BitVec 32 := 0#32
  let c0_i32_48 : BitVec 32 := 0#32
  let c1_i32_50 : BitVec 32 := 1#32
  let arg25 : BitVec 32 := Scf.iv c0_i32_48 c1_i32_50 k0_t2
  let c1_i32_55 : BitVec 32 := 1#32
  let v65 : BitVec 32 := Scalar.muli arg25 c1_i32_55
  let v66 : BitVec 32 := Scalar.addi c0_i32_56 v65
  let v133 : Index := Scalar.indexCast v66
  let c96 : Index := 96#32
  ![v133.toNat, 96]
def k0_off13 (k0_t2 : Fin k0_t2_loop.trips) : Fin 2 → Nat :=
  let c0_i32_56 : BitVec 32 := 0#32
  let c0_i32_48 : BitVec 32 := 0#32
  let c1_i32_50 : BitVec 32 := 1#32
  let arg25 : BitVec 32 := Scf.iv c0_i32_48 c1_i32_50 k0_t2
  let c1_i32_55 : BitVec 32 := 1#32
  let v65 : BitVec 32 := Scalar.muli arg25 c1_i32_55
  let v66 : BitVec 32 := Scalar.addi c0_i32_56 v65
  let v144 : Index := Scalar.indexCast v66
  let c112 : Index := 112#32
  ![v144.toNat, 112]
def k0_off14 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c122_i32_1 : BitVec 32 := 122#32
  let v5 : BitVec 32 := Scalar.muli v1 c122_i32_1
  let c2_i32_2 : BitVec 32 := 2#32
  let v6 : BitVec 32 := Scalar.minsi v1 c2_i32_2
  let v7 : BitVec 32 := Scalar.addi v5 v6
  let c1_i32_23 : BitVec 32 := 1#32
  let c3_i32 : BitVec 32 := 3#32
  let c0_i32_7 : BitVec 32 := 0#32
  let c1_i32 : BitVec 32 := 1#32
  let arg23 : BitVec 32 := Scf.iv c0_i32_7 c1_i32 k0_t1
  let v26 : BitVec 32 := Scalar.muli c3_i32 arg23
  let v27 : BitVec 32 := Scalar.addi c1_i32_23 v26
  let c0_i32_24 : BitVec 32 := 0#32
  let v28 : BitVec 32 := Scalar.addi v27 c0_i32_24
  let c1_i32_26 : BitVec 32 := 1#32
  let v32 : BitVec 32 := Scalar.subi v28 c1_i32_26
  let v61 : BitVec 32 := Scalar.addi v7 v32
  let c128_i32_52 : BitVec 32 := 128#32
  let v62 : BitVec 32 := Scalar.muli v61 c128_i32_52
  let c0_i32_53 : BitVec 32 := 0#32
  ![v62.toNat, 0]
def k0_cond6 (i : grid0.Coords) (k0_t1 : Fin k0_t1_loop.trips) : BitVec 1 :=
  let c1_i32_29 : BitVec 32 := 1#32
  let c3_i32_28 : BitVec 32 := 3#32
  let c0_i32_7 : BitVec 32 := 0#32
  let c1_i32 : BitVec 32 := 1#32
  let arg23 : BitVec 32 := Scf.iv c0_i32_7 c1_i32 k0_t1
  let v36 : BitVec 32 := Scalar.muli c3_i32_28 arg23
  let v37 : BitVec 32 := Scalar.addi c1_i32_29 v36
  let c1_i32_30 : BitVec 32 := 1#32
  let v38 : BitVec 32 := Scalar.addi v37 c1_i32_30
  let c122_i32 : BitVec 32 := 122#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 1 := Scalar.cmpi .slt v1 c2_i32_0
  let v3 : BitVec 32 := Scalar.extui v2
  let v4 : BitVec 32 := Scalar.addi c122_i32 v3
  let v39 : BitVec 1 := Scalar.cmpi .slt v38 v4
  let v40 : BitVec 32 := Scalar.extui v39
  let c0_i32_31 : BitVec 32 := 0#32
  let v41 : BitVec 1 := Scalar.cmpi .ne v40 c0_i32_31
  v41

def k0_off15 (k0_t1 : Fin k0_t1_loop.trips) : Fin 1 → Nat :=
  let c1_i32_29 : BitVec 32 := 1#32
  let c3_i32_28 : BitVec 32 := 3#32
  let c0_i32_7 : BitVec 32 := 0#32
  let c1_i32 : BitVec 32 := 1#32
  let arg23 : BitVec 32 := Scf.iv c0_i32_7 c1_i32 k0_t1
  let v36 : BitVec 32 := Scalar.muli c3_i32_28 arg23
  let v37 : BitVec 32 := Scalar.addi c1_i32_29 v36
  let c1_i32_30 : BitVec 32 := 1#32
  let v38 : BitVec 32 := Scalar.addi v37 c1_i32_30
  let c128_i32_43 : BitVec 32 := 128#32
  let v59 : BitVec 32 := Scalar.muli v38 c128_i32_43
  ![v59.toNat]
def k0_off16 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c122_i32_1 : BitVec 32 := 122#32
  let v5 : BitVec 32 := Scalar.muli v1 c122_i32_1
  let c2_i32_2 : BitVec 32 := 2#32
  let v6 : BitVec 32 := Scalar.minsi v1 c2_i32_2
  let v7 : BitVec 32 := Scalar.addi v5 v6
  let c1_i32_29 : BitVec 32 := 1#32
  let c3_i32_28 : BitVec 32 := 3#32
  let c0_i32_7 : BitVec 32 := 0#32
  let c1_i32 : BitVec 32 := 1#32
  let arg23 : BitVec 32 := Scf.iv c0_i32_7 c1_i32 k0_t1
  let v36 : BitVec 32 := Scalar.muli c3_i32_28 arg23
  let v37 : BitVec 32 := Scalar.addi c1_i32_29 v36
  let c1_i32_30 : BitVec 32 := 1#32
  let v38 : BitVec 32 := Scalar.addi v37 c1_i32_30
  let v62 : BitVec 32 := Scalar.addi v7 v38
  let c128_i32_46 : BitVec 32 := 128#32
  let v63 : BitVec 32 := Scalar.muli v62 c128_i32_46
  let c0_i32_47 : BitVec 32 := 0#32
  ![v63.toNat, 0]
def k0_cond8 (i : grid0.Coords) (k0_t1 : Fin k0_t1_loop.trips) : BitVec 1 :=
  let c1_i32_29 : BitVec 32 := 1#32
  let c3_i32_28 : BitVec 32 := 3#32
  let c0_i32_7 : BitVec 32 := 0#32
  let c1_i32 : BitVec 32 := 1#32
  let arg23 : BitVec 32 := Scf.iv c0_i32_7 c1_i32 k0_t1
  let v36 : BitVec 32 := Scalar.muli c3_i32_28 arg23
  let v37 : BitVec 32 := Scalar.addi c1_i32_29 v36
  let c1_i32_30 : BitVec 32 := 1#32
  let v38 : BitVec 32 := Scalar.addi v37 c1_i32_30
  let c1_i32_32 : BitVec 32 := 1#32
  let v42 : BitVec 32 := Scalar.subi v38 c1_i32_32
  let c122_i32 : BitVec 32 := 122#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 1 := Scalar.cmpi .slt v1 c2_i32_0
  let v3 : BitVec 32 := Scalar.extui v2
  let v4 : BitVec 32 := Scalar.addi c122_i32 v3
  let v43 : BitVec 1 := Scalar.cmpi .slt v42 v4
  let v44 : BitVec 32 := Scalar.extui v43
  let c0_i32_33 : BitVec 32 := 0#32
  let v45 : BitVec 1 := Scalar.cmpi .ne v44 c0_i32_33
  v45

@[reducible] def k0_t3_loop : Scf.Loop 32 :=
  let c0_i32_48 : BitVec 32 := 0#32
  let c128_i32_49 : BitVec 32 := 128#32
  let v60 : BitVec 32 := Scalar.addi c0_i32_48 c128_i32_49
  let c1_i32_50 : BitVec 32 := 1#32
  ⟨c0_i32_48, v60, c1_i32_50⟩
def k0_off17 (k0_t3 : Fin k0_t3_loop.trips) : Fin 2 → Nat :=
  let c0_i32_56 : BitVec 32 := 0#32
  let c0_i32_48 : BitVec 32 := 0#32
  let c1_i32_50 : BitVec 32 := 1#32
  let arg25 : BitVec 32 := Scf.iv c0_i32_48 c1_i32_50 k0_t3
  let c1_i32_55 : BitVec 32 := 1#32
  let v65 : BitVec 32 := Scalar.muli arg25 c1_i32_55
  let v66 : BitVec 32 := Scalar.addi c0_i32_56 v65
  let v67 : Index := Scalar.indexCast v66
  let c0 : Index := 0#32
  ![v67.toNat, 0]
def k0_off18 (k0_t3 : Fin k0_t3_loop.trips) : Fin 2 → Nat :=
  let c0_i32_56 : BitVec 32 := 0#32
  let c0_i32_48 : BitVec 32 := 0#32
  let c1_i32_50 : BitVec 32 := 1#32
  let arg25 : BitVec 32 := Scf.iv c0_i32_48 c1_i32_50 k0_t3
  let c1_i32_55 : BitVec 32 := 1#32
  let v65 : BitVec 32 := Scalar.muli arg25 c1_i32_55
  let v66 : BitVec 32 := Scalar.addi c0_i32_56 v65
  let v78 : Index := Scalar.indexCast v66
  let c16 : Index := 16#32
  ![v78.toNat, 16]
def k0_off19 (k0_t3 : Fin k0_t3_loop.trips) : Fin 2 → Nat :=
  let c0_i32_56 : BitVec 32 := 0#32
  let c0_i32_48 : BitVec 32 := 0#32
  let c1_i32_50 : BitVec 32 := 1#32
  let arg25 : BitVec 32 := Scf.iv c0_i32_48 c1_i32_50 k0_t3
  let c1_i32_55 : BitVec 32 := 1#32
  let v65 : BitVec 32 := Scalar.muli arg25 c1_i32_55
  let v66 : BitVec 32 := Scalar.addi c0_i32_56 v65
  let v89 : Index := Scalar.indexCast v66
  let c32 : Index := 32#32
  ![v89.toNat, 32]
def k0_off20 (k0_t3 : Fin k0_t3_loop.trips) : Fin 2 → Nat :=
  let c0_i32_56 : BitVec 32 := 0#32
  let c0_i32_48 : BitVec 32 := 0#32
  let c1_i32_50 : BitVec 32 := 1#32
  let arg25 : BitVec 32 := Scf.iv c0_i32_48 c1_i32_50 k0_t3
  let c1_i32_55 : BitVec 32 := 1#32
  let v65 : BitVec 32 := Scalar.muli arg25 c1_i32_55
  let v66 : BitVec 32 := Scalar.addi c0_i32_56 v65
  let v100 : Index := Scalar.indexCast v66
  let c48 : Index := 48#32
  ![v100.toNat, 48]
def k0_off21 (k0_t3 : Fin k0_t3_loop.trips) : Fin 2 → Nat :=
  let c0_i32_56 : BitVec 32 := 0#32
  let c0_i32_48 : BitVec 32 := 0#32
  let c1_i32_50 : BitVec 32 := 1#32
  let arg25 : BitVec 32 := Scf.iv c0_i32_48 c1_i32_50 k0_t3
  let c1_i32_55 : BitVec 32 := 1#32
  let v65 : BitVec 32 := Scalar.muli arg25 c1_i32_55
  let v66 : BitVec 32 := Scalar.addi c0_i32_56 v65
  let v111 : Index := Scalar.indexCast v66
  let c64 : Index := 64#32
  ![v111.toNat, 64]
def k0_off22 (k0_t3 : Fin k0_t3_loop.trips) : Fin 2 → Nat :=
  let c0_i32_56 : BitVec 32 := 0#32
  let c0_i32_48 : BitVec 32 := 0#32
  let c1_i32_50 : BitVec 32 := 1#32
  let arg25 : BitVec 32 := Scf.iv c0_i32_48 c1_i32_50 k0_t3
  let c1_i32_55 : BitVec 32 := 1#32
  let v65 : BitVec 32 := Scalar.muli arg25 c1_i32_55
  let v66 : BitVec 32 := Scalar.addi c0_i32_56 v65
  let v122 : Index := Scalar.indexCast v66
  let c80 : Index := 80#32
  ![v122.toNat, 80]
def k0_off23 (k0_t3 : Fin k0_t3_loop.trips) : Fin 2 → Nat :=
  let c0_i32_56 : BitVec 32 := 0#32
  let c0_i32_48 : BitVec 32 := 0#32
  let c1_i32_50 : BitVec 32 := 1#32
  let arg25 : BitVec 32 := Scf.iv c0_i32_48 c1_i32_50 k0_t3
  let c1_i32_55 : BitVec 32 := 1#32
  let v65 : BitVec 32 := Scalar.muli arg25 c1_i32_55
  let v66 : BitVec 32 := Scalar.addi c0_i32_56 v65
  let v133 : Index := Scalar.indexCast v66
  let c96 : Index := 96#32
  ![v133.toNat, 96]
def k0_off24 (k0_t3 : Fin k0_t3_loop.trips) : Fin 2 → Nat :=
  let c0_i32_56 : BitVec 32 := 0#32
  let c0_i32_48 : BitVec 32 := 0#32
  let c1_i32_50 : BitVec 32 := 1#32
  let arg25 : BitVec 32 := Scf.iv c0_i32_48 c1_i32_50 k0_t3
  let c1_i32_55 : BitVec 32 := 1#32
  let v65 : BitVec 32 := Scalar.muli arg25 c1_i32_55
  let v66 : BitVec 32 := Scalar.addi c0_i32_56 v65
  let v144 : Index := Scalar.indexCast v66
  let c112 : Index := 112#32
  ![v144.toNat, 112]
def k0_off25 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c122_i32_1 : BitVec 32 := 122#32
  let v5 : BitVec 32 := Scalar.muli v1 c122_i32_1
  let c2_i32_2 : BitVec 32 := 2#32
  let v6 : BitVec 32 := Scalar.minsi v1 c2_i32_2
  let v7 : BitVec 32 := Scalar.addi v5 v6
  let c1_i32_29 : BitVec 32 := 1#32
  let c3_i32_28 : BitVec 32 := 3#32
  let c0_i32_7 : BitVec 32 := 0#32
  let c1_i32 : BitVec 32 := 1#32
  let arg23 : BitVec 32 := Scf.iv c0_i32_7 c1_i32 k0_t1
  let v36 : BitVec 32 := Scalar.muli c3_i32_28 arg23
  let v37 : BitVec 32 := Scalar.addi c1_i32_29 v36
  let c1_i32_30 : BitVec 32 := 1#32
  let v38 : BitVec 32 := Scalar.addi v37 c1_i32_30
  let c1_i32_32 : BitVec 32 := 1#32
  let v42 : BitVec 32 := Scalar.subi v38 c1_i32_32
  let v61 : BitVec 32 := Scalar.addi v7 v42
  let c128_i32_52 : BitVec 32 := 128#32
  let v62 : BitVec 32 := Scalar.muli v61 c128_i32_52
  let c0_i32_53 : BitVec 32 := 0#32
  ![v62.toNat, 0]
def k0_cond9 (i : grid0.Coords) (k0_t1 : Fin k0_t1_loop.trips) : BitVec 1 :=
  let c1_i32_35 : BitVec 32 := 1#32
  let c3_i32_34 : BitVec 32 := 3#32
  let c0_i32_7 : BitVec 32 := 0#32
  let c1_i32 : BitVec 32 := 1#32
  let arg23 : BitVec 32 := Scf.iv c0_i32_7 c1_i32 k0_t1
  let v46 : BitVec 32 := Scalar.muli c3_i32_34 arg23
  let v47 : BitVec 32 := Scalar.addi c1_i32_35 v46
  let c2_i32_36 : BitVec 32 := 2#32
  let v48 : BitVec 32 := Scalar.addi v47 c2_i32_36
  let c122_i32 : BitVec 32 := 122#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 1 := Scalar.cmpi .slt v1 c2_i32_0
  let v3 : BitVec 32 := Scalar.extui v2
  let v4 : BitVec 32 := Scalar.addi c122_i32 v3
  let v49 : BitVec 1 := Scalar.cmpi .slt v48 v4
  let v50 : BitVec 32 := Scalar.extui v49
  let c0_i32_37 : BitVec 32 := 0#32
  let v51 : BitVec 1 := Scalar.cmpi .ne v50 c0_i32_37
  v51

def k0_off26 (k0_t1 : Fin k0_t1_loop.trips) : Fin 1 → Nat :=
  let c1_i32_35 : BitVec 32 := 1#32
  let c3_i32_34 : BitVec 32 := 3#32
  let c0_i32_7 : BitVec 32 := 0#32
  let c1_i32 : BitVec 32 := 1#32
  let arg23 : BitVec 32 := Scf.iv c0_i32_7 c1_i32 k0_t1
  let v46 : BitVec 32 := Scalar.muli c3_i32_34 arg23
  let v47 : BitVec 32 := Scalar.addi c1_i32_35 v46
  let c2_i32_36 : BitVec 32 := 2#32
  let v48 : BitVec 32 := Scalar.addi v47 c2_i32_36
  let c128_i32_43 : BitVec 32 := 128#32
  let v59 : BitVec 32 := Scalar.muli v48 c128_i32_43
  ![v59.toNat]
def k0_off27 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c122_i32_1 : BitVec 32 := 122#32
  let v5 : BitVec 32 := Scalar.muli v1 c122_i32_1
  let c2_i32_2 : BitVec 32 := 2#32
  let v6 : BitVec 32 := Scalar.minsi v1 c2_i32_2
  let v7 : BitVec 32 := Scalar.addi v5 v6
  let c1_i32_35 : BitVec 32 := 1#32
  let c3_i32_34 : BitVec 32 := 3#32
  let c0_i32_7 : BitVec 32 := 0#32
  let c1_i32 : BitVec 32 := 1#32
  let arg23 : BitVec 32 := Scf.iv c0_i32_7 c1_i32 k0_t1
  let v46 : BitVec 32 := Scalar.muli c3_i32_34 arg23
  let v47 : BitVec 32 := Scalar.addi c1_i32_35 v46
  let c2_i32_36 : BitVec 32 := 2#32
  let v48 : BitVec 32 := Scalar.addi v47 c2_i32_36
  let v62 : BitVec 32 := Scalar.addi v7 v48
  let c128_i32_46 : BitVec 32 := 128#32
  let v63 : BitVec 32 := Scalar.muli v62 c128_i32_46
  let c0_i32_47 : BitVec 32 := 0#32
  ![v63.toNat, 0]
def k0_cond11 (i : grid0.Coords) (k0_t1 : Fin k0_t1_loop.trips) : BitVec 1 :=
  let c1_i32_35 : BitVec 32 := 1#32
  let c3_i32_34 : BitVec 32 := 3#32
  let c0_i32_7 : BitVec 32 := 0#32
  let c1_i32 : BitVec 32 := 1#32
  let arg23 : BitVec 32 := Scf.iv c0_i32_7 c1_i32 k0_t1
  let v46 : BitVec 32 := Scalar.muli c3_i32_34 arg23
  let v47 : BitVec 32 := Scalar.addi c1_i32_35 v46
  let c2_i32_36 : BitVec 32 := 2#32
  let v48 : BitVec 32 := Scalar.addi v47 c2_i32_36
  let c1_i32_38 : BitVec 32 := 1#32
  let v52 : BitVec 32 := Scalar.subi v48 c1_i32_38
  let c122_i32 : BitVec 32 := 122#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 1 := Scalar.cmpi .slt v1 c2_i32_0
  let v3 : BitVec 32 := Scalar.extui v2
  let v4 : BitVec 32 := Scalar.addi c122_i32 v3
  let v53 : BitVec 1 := Scalar.cmpi .slt v52 v4
  let v54 : BitVec 32 := Scalar.extui v53
  let c0_i32_39 : BitVec 32 := 0#32
  let v55 : BitVec 1 := Scalar.cmpi .ne v54 c0_i32_39
  v55

@[reducible] def k0_t4_loop : Scf.Loop 32 :=
  let c0_i32_48 : BitVec 32 := 0#32
  let c128_i32_49 : BitVec 32 := 128#32
  let v60 : BitVec 32 := Scalar.addi c0_i32_48 c128_i32_49
  let c1_i32_50 : BitVec 32 := 1#32
  ⟨c0_i32_48, v60, c1_i32_50⟩
def k0_off28 (k0_t4 : Fin k0_t4_loop.trips) : Fin 2 → Nat :=
  let c0_i32_56 : BitVec 32 := 0#32
  let c0_i32_48 : BitVec 32 := 0#32
  let c1_i32_50 : BitVec 32 := 1#32
  let arg25 : BitVec 32 := Scf.iv c0_i32_48 c1_i32_50 k0_t4
  let c1_i32_55 : BitVec 32 := 1#32
  let v65 : BitVec 32 := Scalar.muli arg25 c1_i32_55
  let v66 : BitVec 32 := Scalar.addi c0_i32_56 v65
  let v67 : Index := Scalar.indexCast v66
  let c0 : Index := 0#32
  ![v67.toNat, 0]
def k0_off29 (k0_t4 : Fin k0_t4_loop.trips) : Fin 2 → Nat :=
  let c0_i32_56 : BitVec 32 := 0#32
  let c0_i32_48 : BitVec 32 := 0#32
  let c1_i32_50 : BitVec 32 := 1#32
  let arg25 : BitVec 32 := Scf.iv c0_i32_48 c1_i32_50 k0_t4
  let c1_i32_55 : BitVec 32 := 1#32
  let v65 : BitVec 32 := Scalar.muli arg25 c1_i32_55
  let v66 : BitVec 32 := Scalar.addi c0_i32_56 v65
  let v78 : Index := Scalar.indexCast v66
  let c16 : Index := 16#32
  ![v78.toNat, 16]
def k0_off30 (k0_t4 : Fin k0_t4_loop.trips) : Fin 2 → Nat :=
  let c0_i32_56 : BitVec 32 := 0#32
  let c0_i32_48 : BitVec 32 := 0#32
  let c1_i32_50 : BitVec 32 := 1#32
  let arg25 : BitVec 32 := Scf.iv c0_i32_48 c1_i32_50 k0_t4
  let c1_i32_55 : BitVec 32 := 1#32
  let v65 : BitVec 32 := Scalar.muli arg25 c1_i32_55
  let v66 : BitVec 32 := Scalar.addi c0_i32_56 v65
  let v89 : Index := Scalar.indexCast v66
  let c32 : Index := 32#32
  ![v89.toNat, 32]
def k0_off31 (k0_t4 : Fin k0_t4_loop.trips) : Fin 2 → Nat :=
  let c0_i32_56 : BitVec 32 := 0#32
  let c0_i32_48 : BitVec 32 := 0#32
  let c1_i32_50 : BitVec 32 := 1#32
  let arg25 : BitVec 32 := Scf.iv c0_i32_48 c1_i32_50 k0_t4
  let c1_i32_55 : BitVec 32 := 1#32
  let v65 : BitVec 32 := Scalar.muli arg25 c1_i32_55
  let v66 : BitVec 32 := Scalar.addi c0_i32_56 v65
  let v100 : Index := Scalar.indexCast v66
  let c48 : Index := 48#32
  ![v100.toNat, 48]
def k0_off32 (k0_t4 : Fin k0_t4_loop.trips) : Fin 2 → Nat :=
  let c0_i32_56 : BitVec 32 := 0#32
  let c0_i32_48 : BitVec 32 := 0#32
  let c1_i32_50 : BitVec 32 := 1#32
  let arg25 : BitVec 32 := Scf.iv c0_i32_48 c1_i32_50 k0_t4
  let c1_i32_55 : BitVec 32 := 1#32
  let v65 : BitVec 32 := Scalar.muli arg25 c1_i32_55
  let v66 : BitVec 32 := Scalar.addi c0_i32_56 v65
  let v111 : Index := Scalar.indexCast v66
  let c64 : Index := 64#32
  ![v111.toNat, 64]
def k0_off33 (k0_t4 : Fin k0_t4_loop.trips) : Fin 2 → Nat :=
  let c0_i32_56 : BitVec 32 := 0#32
  let c0_i32_48 : BitVec 32 := 0#32
  let c1_i32_50 : BitVec 32 := 1#32
  let arg25 : BitVec 32 := Scf.iv c0_i32_48 c1_i32_50 k0_t4
  let c1_i32_55 : BitVec 32 := 1#32
  let v65 : BitVec 32 := Scalar.muli arg25 c1_i32_55
  let v66 : BitVec 32 := Scalar.addi c0_i32_56 v65
  let v122 : Index := Scalar.indexCast v66
  let c80 : Index := 80#32
  ![v122.toNat, 80]
def k0_off34 (k0_t4 : Fin k0_t4_loop.trips) : Fin 2 → Nat :=
  let c0_i32_56 : BitVec 32 := 0#32
  let c0_i32_48 : BitVec 32 := 0#32
  let c1_i32_50 : BitVec 32 := 1#32
  let arg25 : BitVec 32 := Scf.iv c0_i32_48 c1_i32_50 k0_t4
  let c1_i32_55 : BitVec 32 := 1#32
  let v65 : BitVec 32 := Scalar.muli arg25 c1_i32_55
  let v66 : BitVec 32 := Scalar.addi c0_i32_56 v65
  let v133 : Index := Scalar.indexCast v66
  let c96 : Index := 96#32
  ![v133.toNat, 96]
def k0_off35 (k0_t4 : Fin k0_t4_loop.trips) : Fin 2 → Nat :=
  let c0_i32_56 : BitVec 32 := 0#32
  let c0_i32_48 : BitVec 32 := 0#32
  let c1_i32_50 : BitVec 32 := 1#32
  let arg25 : BitVec 32 := Scf.iv c0_i32_48 c1_i32_50 k0_t4
  let c1_i32_55 : BitVec 32 := 1#32
  let v65 : BitVec 32 := Scalar.muli arg25 c1_i32_55
  let v66 : BitVec 32 := Scalar.addi c0_i32_56 v65
  let v144 : Index := Scalar.indexCast v66
  let c112 : Index := 112#32
  ![v144.toNat, 112]
def k0_off36 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c122_i32_1 : BitVec 32 := 122#32
  let v5 : BitVec 32 := Scalar.muli v1 c122_i32_1
  let c2_i32_2 : BitVec 32 := 2#32
  let v6 : BitVec 32 := Scalar.minsi v1 c2_i32_2
  let v7 : BitVec 32 := Scalar.addi v5 v6
  let c1_i32_35 : BitVec 32 := 1#32
  let c3_i32_34 : BitVec 32 := 3#32
  let c0_i32_7 : BitVec 32 := 0#32
  let c1_i32 : BitVec 32 := 1#32
  let arg23 : BitVec 32 := Scf.iv c0_i32_7 c1_i32 k0_t1
  let v46 : BitVec 32 := Scalar.muli c3_i32_34 arg23
  let v47 : BitVec 32 := Scalar.addi c1_i32_35 v46
  let c2_i32_36 : BitVec 32 := 2#32
  let v48 : BitVec 32 := Scalar.addi v47 c2_i32_36
  let c1_i32_38 : BitVec 32 := 1#32
  let v52 : BitVec 32 := Scalar.subi v48 c1_i32_38
  let v61 : BitVec 32 := Scalar.addi v7 v52
  let c128_i32_52 : BitVec 32 := 128#32
  let v62 : BitVec 32 := Scalar.muli v61 c128_i32_52
  let c0_i32_53 : BitVec 32 := 0#32
  ![v62.toNat, 0]
def k0_cond12 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let v23 : BitVec 1 := Scalar.cmpi .eq v1 c0_i32_21
  let v24 : BitVec 32 := Scalar.extui v23
  let c0_i32_22 : BitVec 32 := 0#32
  let v25 : BitVec 1 := Scalar.cmpi .ne v24 c0_i32_22
  v25

@[reducible] def k0_t5_loop : Scf.Loop 32 :=
  let c0_i32_32 : BitVec 32 := 0#32
  let c32_i32 : BitVec 32 := 32#32
  let v32 : BitVec 32 := Scalar.addi c0_i32_32 c32_i32
  let c1_i32_33 : BitVec 32 := 1#32
  ⟨c0_i32_32, v32, c1_i32_33⟩
def k0_off37 (k0_t5 : Fin k0_t5_loop.trips) : Fin 2 → Nat :=
  let c0_i32_36 : BitVec 32 := 0#32
  let c0_i32_32 : BitVec 32 := 0#32
  let c1_i32_33 : BitVec 32 := 1#32
  let arg23 : BitVec 32 := Scf.iv c0_i32_32 c1_i32_33 k0_t5
  let c1_i32_35 : BitVec 32 := 1#32
  let v33 : BitVec 32 := Scalar.muli arg23 c1_i32_35
  let v34 : BitVec 32 := Scalar.addi c0_i32_36 v33
  let v35 : Index := Scalar.indexCast v34
  let c0 : Index := 0#32
  ![v35.toNat, 0]
def k0_off38 (k0_t5 : Fin k0_t5_loop.trips) : Fin 2 → Nat :=
  let c0_i32_36 : BitVec 32 := 0#32
  let c0_i32_32 : BitVec 32 := 0#32
  let c1_i32_33 : BitVec 32 := 1#32
  let arg23 : BitVec 32 := Scf.iv c0_i32_32 c1_i32_33 k0_t5
  let c1_i32_35 : BitVec 32 := 1#32
  let v33 : BitVec 32 := Scalar.muli arg23 c1_i32_35
  let v34 : BitVec 32 := Scalar.addi c0_i32_36 v33
  let v46 : Index := Scalar.indexCast v34
  let c16 : Index := 16#32
  ![v46.toNat, 16]
def k0_off39 (k0_t5 : Fin k0_t5_loop.trips) : Fin 2 → Nat :=
  let c0_i32_36 : BitVec 32 := 0#32
  let c0_i32_32 : BitVec 32 := 0#32
  let c1_i32_33 : BitVec 32 := 1#32
  let arg23 : BitVec 32 := Scf.iv c0_i32_32 c1_i32_33 k0_t5
  let c1_i32_35 : BitVec 32 := 1#32
  let v33 : BitVec 32 := Scalar.muli arg23 c1_i32_35
  let v34 : BitVec 32 := Scalar.addi c0_i32_36 v33
  let v57 : Index := Scalar.indexCast v34
  let c32 : Index := 32#32
  ![v57.toNat, 32]
def k0_off40 (k0_t5 : Fin k0_t5_loop.trips) : Fin 2 → Nat :=
  let c0_i32_36 : BitVec 32 := 0#32
  let c0_i32_32 : BitVec 32 := 0#32
  let c1_i32_33 : BitVec 32 := 1#32
  let arg23 : BitVec 32 := Scf.iv c0_i32_32 c1_i32_33 k0_t5
  let c1_i32_35 : BitVec 32 := 1#32
  let v33 : BitVec 32 := Scalar.muli arg23 c1_i32_35
  let v34 : BitVec 32 := Scalar.addi c0_i32_36 v33
  let v68 : Index := Scalar.indexCast v34
  let c48 : Index := 48#32
  ![v68.toNat, 48]
def k0_off41 (k0_t5 : Fin k0_t5_loop.trips) : Fin 2 → Nat :=
  let c0_i32_36 : BitVec 32 := 0#32
  let c0_i32_32 : BitVec 32 := 0#32
  let c1_i32_33 : BitVec 32 := 1#32
  let arg23 : BitVec 32 := Scf.iv c0_i32_32 c1_i32_33 k0_t5
  let c1_i32_35 : BitVec 32 := 1#32
  let v33 : BitVec 32 := Scalar.muli arg23 c1_i32_35
  let v34 : BitVec 32 := Scalar.addi c0_i32_36 v33
  let v79 : Index := Scalar.indexCast v34
  let c64 : Index := 64#32
  ![v79.toNat, 64]
def k0_off42 (k0_t5 : Fin k0_t5_loop.trips) : Fin 2 → Nat :=
  let c0_i32_36 : BitVec 32 := 0#32
  let c0_i32_32 : BitVec 32 := 0#32
  let c1_i32_33 : BitVec 32 := 1#32
  let arg23 : BitVec 32 := Scf.iv c0_i32_32 c1_i32_33 k0_t5
  let c1_i32_35 : BitVec 32 := 1#32
  let v33 : BitVec 32 := Scalar.muli arg23 c1_i32_35
  let v34 : BitVec 32 := Scalar.addi c0_i32_36 v33
  let v90 : Index := Scalar.indexCast v34
  let c80 : Index := 80#32
  ![v90.toNat, 80]
def k0_off43 (k0_t5 : Fin k0_t5_loop.trips) : Fin 2 → Nat :=
  let c0_i32_36 : BitVec 32 := 0#32
  let c0_i32_32 : BitVec 32 := 0#32
  let c1_i32_33 : BitVec 32 := 1#32
  let arg23 : BitVec 32 := Scf.iv c0_i32_32 c1_i32_33 k0_t5
  let c1_i32_35 : BitVec 32 := 1#32
  let v33 : BitVec 32 := Scalar.muli arg23 c1_i32_35
  let v34 : BitVec 32 := Scalar.addi c0_i32_36 v33
  let v101 : Index := Scalar.indexCast v34
  let c96 : Index := 96#32
  ![v101.toNat, 96]
def k0_off44 (k0_t5 : Fin k0_t5_loop.trips) : Fin 2 → Nat :=
  let c0_i32_36 : BitVec 32 := 0#32
  let c0_i32_32 : BitVec 32 := 0#32
  let c1_i32_33 : BitVec 32 := 1#32
  let arg23 : BitVec 32 := Scf.iv c0_i32_32 c1_i32_33 k0_t5
  let c1_i32_35 : BitVec 32 := 1#32
  let v33 : BitVec 32 := Scalar.muli arg23 c1_i32_35
  let v34 : BitVec 32 := Scalar.addi c0_i32_36 v33
  let v112 : Index := Scalar.indexCast v34
  let c112 : Index := 112#32
  ![v112.toNat, 112]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S100000x128 : Shape := ⟨2, ![100000, 128]⟩
abbrev S500000x128 : Shape := ⟨2, ![500000, 128]⟩
abbrev S500000 : Shape := ⟨1, ![500000]⟩
abbrev S_ : Shape := ⟨0, ![]⟩
abbrev S500000x1 : Shape := ⟨2, ![500000, 1]⟩
abbrev S1 : Shape := ⟨1, ![1]⟩
abbrev S1x1 : Shape := ⟨2, ![1, 1]⟩

abbrev nBuf : Space → Nat
  | .hbm => 27
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S500000x128, .f32⟩
  | .hbm, ⟨2, _⟩ => ⟨S500000, .i32⟩
  | .hbm, ⟨3, _⟩ => ⟨S_, .i32⟩
  | .hbm, ⟨4, _⟩ => ⟨S500000, .i32⟩
  | .hbm, ⟨5, _⟩ => ⟨S500000, .i1⟩
  | .hbm, ⟨6, _⟩ => ⟨S_, .i32⟩
  | .hbm, ⟨7, _⟩ => ⟨S500000, .i32⟩
  | .hbm, ⟨8, _⟩ => ⟨S500000, .i32⟩
  | .hbm, ⟨9, _⟩ => ⟨S500000, .i32⟩
  | .hbm, ⟨10, _⟩ => ⟨S500000x1, .i32⟩
  | .hbm, ⟨11, _⟩ => ⟨S1, .i32⟩
  | .hbm, ⟨12, _⟩ => ⟨S_, .i32⟩
  | .hbm, ⟨13, _⟩ => ⟨S500000x1, .i32⟩
  | .hbm, ⟨14, _⟩ => ⟨S500000x1, .i1⟩
  | .hbm, ⟨15, _⟩ => ⟨S1x1, .i32⟩
  | .hbm, ⟨16, _⟩ => ⟨S500000x1, .i32⟩
  | .hbm, ⟨17, _⟩ => ⟨S500000x1, .i1⟩
  | .hbm, ⟨18, _⟩ => ⟨S500000x1, .i1⟩
  | .hbm, ⟨19, _⟩ => ⟨S_, .i1⟩
  | .hbm, ⟨20, _⟩ => ⟨S500000, .i1⟩
  | .hbm, ⟨21, _⟩ => ⟨S500000x128, .f32⟩
  | .hbm, ⟨22, _⟩ => ⟨S500000x128, .i1⟩
  | .hbm, ⟨23, _⟩ => ⟨S_, .f32⟩
  | .hbm, ⟨24, _⟩ => ⟨S500000x128, .f32⟩
  | .hbm, ⟨25, _⟩ => ⟨S500000x128, .f32⟩
  | .hbm, ⟨26, _⟩ => ⟨S500000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_v1 : Ref sig .tc := ⟨.hbm, 26, rfl⟩

abbrev nD : Nat := 1
abbrev τ : Topo := Topo.v7x

variable {F : FTy → Type} [FloatOps F]
-- ==== Proof.Base.lean ====
/-
  The ground of the proof: the names of the launch, what a buffer of a tile holds, a transfer in flight, and the rule of
  each kind of copy the kernel makes, each stated once for any view.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Gadd

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

/-- The subcore that runs the task of coordinates `L`. -/
abbrev cV (L : grid0.Coords) : Fin τ.nSC := (L 0).castLE hcore0
abbrev jV (L : grid0.Coords) : Fin τ.nSub := (L 1).castLE hsub0
abbrev VT (d : Dev nD) (L : grid0.Coords) : Thread nD τ := V d (cV L) (jV L)

variable (d : Dev nD) (L : grid0.Coords)

/-- A memref's elements are owned and read `v`. -/
def holds {sp : Space} {s : Shape} {e : EltTy} (m : Memref sig .scVector sp s e) (v : s.Idx → Elt F e) : sProp 𝕄 :=
  iprop(∃ f : Buf (Elt F) (m.view.loc (VT d L)), ⌜m.view.read (Elt F) f = v⌝ ∗ (m.view.loc (VT d L) ↦[m.view.set]{fullShare} f))

/-- A memref's elements are owned, whatever they read. -/
def someVal {sp : Space} {s : Shape} {e : EltTy} (m : Memref sig .scVector sp s e) : sProp 𝕄 :=
  iprop(∃ f : Buf (Elt F) (m.view.loc (VT d L)), m.view.loc (VT d L) ↦[m.view.set]{fullShare} f)

/-- A semaphore of the tile stands at zero. -/
abbrev zero (sm : DmaSem sig) : sProp 𝕄 := semVal (VT d L, SemLoc.dma sm) 0

/-- A transfer of `N` credits in flight on `sm`; its wait hands over `R`. -/
def Fl (sm : DmaSem sig) (N : ℕ) (R : sProp 𝕄) : sProp 𝕄 :=
  iprop(∃ D₀ R₀ : sProp 𝕄, Transfers.Flight countersEmb (VT d L) (.dma sm) default N D₀ ∗ R₀ ∗ ⌜iprop(D₀ ∗ R₀) ⊢ R⌝)

/-- What the tile owes, with the evidence that it may wait on its own semaphores meanwhile. -/
def Ow (O : CellTallies nD τ sig (HIx 1)) : sProp 𝕄 :=
  iprop(Transfers.MayWaits (VT d L) (default : HIx 1) O ∗ ∃ W, owes (VT d L) O W)

theorem someVal_of_holds {sp : Space} {s : Shape} {e : EltTy} (m : Memref sig .scVector sp s e) (v : s.Idx → Elt F e) :
    (holds d L m v : sProp 𝕄) ⊢ someVal d L m := by
  unfold holds someVal
  iintro ⟨%f, -, H⟩
  iexists f; iexact H

theorem holds_of_someVal {sp : Space} {s : Shape} {e : EltTy} (m : Memref sig .scVector sp s e) :
    (someVal d L m : sProp 𝕄) ⊢ iprop(∃ v, holds d L m v) := by
  unfold holds someVal
  iintro ⟨%f, H⟩
  iexists (m.view.read (Elt F) f), f
  isplitr
  · ipureintro; rfl
  · iexact H

/-- Written whole, a memref holds what was written. -/
theorem holds_written {sp : Space} {s : Shape} {e : EltTy} (m : Memref sig .scVector sp s e)
    (f : Buf (Elt F) (m.view.loc (VT d L))) (w : s.Idx → Elt F e) :
    (m.view.loc (VT d L) ↦[m.view.set]{fullShare} (m.view.write (Elt F) f w Finset.univ) : sProp 𝕄) ⊢ holds d L m w := by
  unfold holds
  iintro H
  iexists (m.view.write (Elt F) f w Finset.univ)
  isplitr
  · ipureintro; exact View.read_write_univ _ _
  · iexact H

variable [FloatOps F]

local notation "wpT" => wp frame (wpE (defs₀ (F := F)) 𝒱₀ (VT d L) none) Set.univ

/-- A wait collects what its transfer delivers, and leaves the semaphore at zero. -/
theorem wait_fl {sp sp' : Space} {s s' : Shape} {e e' : EltTy} {κ' : Kind} {α : Type} {Q : α → sProp 𝕄} {sm : DmaSem sig}
    {srcw : Memref sig .scVector sp' s' e'} {dstw : Memref sig κ' sp s e} {h₁ : srcw.view.WordExact} {h₂ : dstw.view.WordExact}
    {k : PUnit → Prog (TpuEff nD τ sig (Elt F) Λ₀ (VT d L).2) α} {N : ℕ} (hN : dstw.view.dmaCredit = N) {R : sProp 𝕄}
    {O : CellTallies nD τ sig (HIx 1)} :
    iprop(Fl d L sm N R ∗ Ow d L O)
      ⊢ iprop((iprop(R ∗ zero d L sm ∗ Ow d L O) -∗ wpT (k ⟨⟩) Q)
          -∗ wpT (Prog.lift (.waitDma2 sm srcw dstw h₁ h₂) >>= k) Q) := by
  unfold Fl Ow
  iintro ⟨⟨%D₀, %R₀, HF, HR, %hR⟩, ⟨#Hmw, ⟨%W, HO⟩⟩⟩ Hk
  ihave Hm := (Transfers.MayWaits.elim (SemLoc.dma sm)) $$ Hmw
  iapply (Transfers.wp_waitLocalO countersEmb 𝒱₀ (VT d L) none (default : HIx 1) hN) $$ [HF HO Hm]
  · isplitl [HF]; · iexact HF
    isplitl [HO]; · iexact HO
    iexact Hm
  iintro ⟨HD, Hz, HO⟩
  iapply Hk
  isplitl [HD HR]
  · iapply hR
    isplitl [HD]; · iexact HD
    iexact HR
  isplitl [Hz]; · iexact Hz
  isplitr; · iexact Hmw
  iexists _; iexact HO

/-- A copy into a memref the tile owns, from elements it holds a share of. -/
theorem issue_in {sp sp' : Space} {s : Shape} {e : EltTy} {α : Type} {Q : α → sProp 𝕄} {sm : DmaSem sig}
    {src : Memref sig .scVector sp s e} {dst : Memref sig .scVector sp' s e}
    {h₁ : src.view.WordExact} {h₂ : dst.view.WordExact} {h₃ : DmaTarget.Typed (nD := nD) (p := (VT d L).2) sp (.dma sm) (.here dst)}
    {k : PUnit → Prog (TpuEff nD τ sig (Elt F) Λ₀ (VT d L).2) α} {N : ℕ} (hN : dst.view.dmaCredit = N) (hN0 : 0 < N)
    {q : PosShare TreeShare} {fs : Buf (Elt F) (src.view.loc (VT d L))} {Ss : Finset (Idx (src.view.loc (VT d L)))}
    (hS : src.view.set ⊆ Ss) :
    iprop((src.view.loc (VT d L) ↦[Ss]{q} fs) ∗ someVal d L dst ∗ zero d L sm)
      ⊢ iprop((Fl d L sm N iprop(holds d L dst (src.view.read (Elt F) fs) ∗ (src.view.loc (VT d L) ↦[Ss]{q} fs)) -∗ wpT (k ⟨⟩) Q)
          -∗ wpT (Prog.lift (.enqueueDma src (.here dst) (.dma sm) h₁ h₂ h₃) >>= k) Q) := by
  unfold someVal
  iintro ⟨Hs, ⟨%fd, Hd⟩, Hz⟩ Hk
  ihave Hs' := (pointsTo_split_subset (q := q) (f := fs) hS).1 $$ Hs
  icases Hs' with ⟨Hs, Hr⟩
  iapply (Transfers.wp_dmaLocal countersEmb 𝒱₀ (VT d L) none (src := src) (dst := dst) (sm := SemLoc.dma sm) (default : HIx 1) N
    (show dst.view.amount (SemLoc.dma sm) = N from hN) hN0 (Finset.Subset.refl _)) $$ [Hs Hd Hz]
  · isplitl [Hs]; · iexact Hs
    isplitl [Hd]; · iexact Hd
    iexact Hz
  iintro HF
  iapply Hk
  unfold Fl
  iexists _, _
  isplitl [HF]; · iexact HF
  isplitl [Hr]; · iexact Hr
  ipureintro
  iintro ⟨⟨Hd, Hs⟩, Hr⟩
  isplitl [Hd]
  · iapply (holds_written d L dst)
    iexact Hd
  · iapply (pointsTo_split_subset (q := q) (f := fs) hS).2
    isplitl [Hs]; · iexact Hs
    iexact Hr

/-- A copy out of a memref the tile owns, whole elements of the destination handed over: they come back at any contents
    that reads what the memref held. -/
theorem issue_out {sp sp' : Space} {s : Shape} {e : EltTy} {α : Type} {Q : α → sProp 𝕄} {sm : DmaSem sig}
    {src : Memref sig .scVector sp s e} {dst : Memref sig .scVector sp' s e}
    {h₁ : src.view.WordExact} {h₂ : dst.view.WordExact} {h₃ : DmaTarget.Typed (nD := nD) (p := (VT d L).2) sp (.dma sm) (.here dst)}
    {k : PUnit → Prog (TpuEff nD τ sig (Elt F) Λ₀ (VT d L).2) α} {N : ℕ} (hN : dst.view.dmaCredit = N) (hN0 : 0 < N)
    {v : s.Idx → Elt F e} {fd G : Buf (Elt F) (dst.view.loc (VT d L))} (hG : dst.view.read (Elt F) G = v) :
    iprop(holds d L src v ∗ (dst.view.loc (VT d L) ↦[dst.view.set]{fullShare} fd) ∗ zero d L sm)
      ⊢ iprop((Fl d L sm N iprop(holds d L src v ∗ (dst.view.loc (VT d L) ↦[dst.view.set]{fullShare} G)) -∗ wpT (k ⟨⟩) Q)
          -∗ wpT (Prog.lift (.enqueueDma src (.here dst) (.dma sm) h₁ h₂ h₃) >>= k) Q) := by
  unfold holds
  iintro ⟨⟨%fs, %hv, Hs⟩, Hd, Hz⟩ Hk
  iapply (Transfers.wp_dmaLocal countersEmb 𝒱₀ (VT d L) none (src := src) (dst := dst) (sm := SemLoc.dma sm) (default : HIx 1) N
    (show dst.view.amount (SemLoc.dma sm) = N from hN) hN0 (Finset.Subset.refl _)) $$ [Hs Hd Hz]
  · isplitl [Hs]; · iexact Hs
    isplitl [Hd]; · iexact Hd
    iexact Hz
  iintro HF
  iapply Hk
  unfold Fl
  iexists _, iprop(emp)
  isplitl [HF]; · iexact HF
  isplitr; · iempintro
  ipureintro
  iintro ⟨⟨Hd, Hs⟩, -⟩
  isplitl [Hs]
  · iexists fs
    isplitr
    · ipureintro; exact hv
    · iexact Hs
  · have hc : ∀ i ∈ dst.view.set, (dst.view.write (Elt F) fd (ReadAs.same.apply (src.view.read (Elt F) fs)) Finset.univ) i = G i := by
      intro i hi
      obtain ⟨x, -, rfl⟩ := Finset.mem_map.mp hi
      have h2 := congrFun hG x
      rw [View.read_apply] at h2
      have h3 : (ReadAs.same.apply (src.view.read (Elt F) fs)) x = v x := congrFun hv x
      rw [View.write_emb_of_mem _ _ (Finset.mem_univ x), h3, ← h2, cast_cast, cast_eq]
    iapply (Entails.of_eq (pointsTo_congr (q := fullShare) hc))
    iexact Hd

/-- An indirect gather into a memref the tile owns: row `offs[k]` of the table goes to row `k`. -/
theorem issue_gather {s₀ s si : Shape} {a : ℕ} {e : EltTy} {α : Type} {Q : α → sProp 𝕄} {sm : DmaSem sig} {sp : Space}
    {src : Memref sig .scVector sp s₀ e} {dst : Memref sig .scVector .vmem s e} {hg : s₀.Gathers a s}
    {offs : Memref sig .scVector .vmem si .i32} {hn : si.numel = s.size hg.axis'}
    {hp : (VT d L).2.kind = .scVector} {h₁ : src.view.WordExact} {he : e.bits = 32} {hsp : sp = .hbm ∨ sp = .shared}
    {hr : s₀.StreamRows a}
    {k : PUnit → Prog (TpuEff nD τ sig (Elt F) Λ₀ (VT d L).2) α} {N : ℕ} (hN : dst.view.dmaCredit = N)
    (hcr : ∀ s' : Shape, sig.dmaCredit .scVector (Kind.scVector.table .vmem) dst.view.buf s' e = s'.numel * e.bits)
    (hs : 0 < s.numel)
    {q qo : PosShare TreeShare} {fs : Buf (Elt F) (src.view.loc (VT d L))} {fo : Buf (Elt F) (offs.view.loc (VT d L))}
    {Ss : Finset (Idx (src.view.loc (VT d L)))} {So : Finset (Idx (offs.view.loc (VT d L)))}
    (hS : src.view.set ⊆ Ss) (hO : offs.view.set ⊆ So)
    (hin : ∀ x, (offs.view.read (Elt F) fo x).toNat < s₀.size hg.axis) :
    iprop((src.view.loc (VT d L) ↦[Ss]{q} fs) ∗ someVal d L dst ∗ (offs.view.loc (VT d L) ↦[So]{qo} fo) ∗ zero d L sm)
      ⊢ iprop((Fl d L sm N iprop(holds d L dst (SparseCore.gatherPayload hg (src.view.read (Elt F) fs) (SparseCore.rows (offs.view.read (Elt F) fo) hn hin))
              ∗ (src.view.loc (VT d L) ↦[Ss]{q} fs) ∗ (offs.view.loc (VT d L) ↦[So]{qo} fo)) -∗ wpT (k ⟨⟩) Q)
          -∗ wpT (SparseCore.enqueueIndirectGather hp src dst hg offs hn sm h₁ he hsp hr >>= k) Q) := by
  unfold someVal
  iintro ⟨Hs, ⟨%fd, Hd⟩, Ho, Hz⟩ Hk
  ihave Hs' := (pointsTo_split_subset (q := q) (f := fs) hS).1 $$ Hs
  icases Hs' with ⟨Hs, Hr⟩
  ihave Ho' := (pointsTo_split_subset (q := qo) (f := fo) hO).1 $$ Ho
  icases Ho' with ⟨Ho, Hro⟩
  iapply (SparseCore.wp_indirectGatherLocal countersEmb 𝒱₀ (VT d L) none (default : HIx 1) N
    ((SparseCore.sum_rowCredit_eq_dmaCredit dst hg.axis' hcr).trans hN) hs hin) $$ [Hs Hd Ho Hz]
  · isplitl [Hs]; · iexact Hs
    isplitl [Hd]; · iexact Hd
    isplitl [Ho]; · iexact Ho
    iexact Hz
  iintro HF
  iapply Hk
  unfold Fl
  iexists _, iprop((src.view.loc (VT d L) ↦[Ss \ src.view.set]{q} fs) ∗ (offs.view.loc (VT d L) ↦[So \ offs.view.set]{qo} fo))
  isplitl [HF]; · iexact HF
  isplitl [Hr Hro]
  · isplitl [Hr]; · iexact Hr
    iexact Hro
  ipureintro
  iintro ⟨⟨Hd, Hs, Ho⟩, ⟨Hr, Hro⟩⟩
  isplitl [Hd]
  · iapply (holds_written d L dst)
    iexact Hd
  isplitl [Hs Hr]
  · iapply (pointsTo_split_subset (q := q) (f := fs) hS).2
    isplitl [Hs]; · iexact Hs
    iexact Hr
  · iapply (pointsTo_split_subset (q := qo) (f := fo) hO).2
    isplitl [Ho]; · iexact Ho
    iexact Hro

/-- A program that only returns. -/
theorem wpT_pure {α : Type} (a : α) (Q : α → sProp 𝕄) :
    Q a ⊢ wpT (pure a : Prog (TpuEff nD τ sig (Elt F) Λ₀ (VT d L).2) α) Q := by
  change Q a ⊢ wpT (.ret a : Prog (TpuEff nD τ sig (Elt F) Λ₀ (VT d L).2) α) Q
  rw [wp_ret]
  iintro H
  imodintro
  iexact H

end Cert.Proof.Gadd

end
-- ==== Proof.RowLoop.lean ====
/-
  The row loop of a chunk: each of eight lane groups of a row of `rows` has the same lanes of `upb` added to it. After
  `n` rows, rows below `n` hold the sum and the rest what they held.
-/
module

public import proofs.«01_k».proof.Proof.Base
public import Idealize.ShloMosaic.Lib.Pipeline.Value
public import Idealize.ShloMosaic.Lib.WritesUnit

@[expose] public section

noncomputable section

namespace Cert.Proof.Gadd

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

local notation "wpT" => wp frame (wpE (defs₀ (F := F)) 𝒱₀ (VT d L) none) Set.univ

/-- A program of the tile of coordinates `L`. -/
abbrev TP (F : FTy → Type) [FloatOps F] (L : grid0.Coords) (α : Type) : Type 1 :=
  Prog (TpuEff nD τ sig (Elt F) Λ₀ (.scVector ((L 0).castLE hcore0) ((L 1).castLE hsub0))) α

/-- The sum of two lanes. -/
def plus (a b : Elt F .f32) : Elt F .f32 := FloatOps.addf (F := F) (φ := .f32) a b

/-- What is stored of a lane group: the sums, reshaped there and back. -/
def laneSum (a b : Vec F S1x16 .f32) : FVec F S1x16 .f32 :=
  shapeCast S1x16 (addf (shapeCast S16 a shapeCasts_S1x16_S16 : FVec F S16 .f32) (shapeCast S16 b shapeCasts_S1x16_S16)) shapeCasts_S16_S1x16

theorem laneSum_apply (a b : Vec F S1x16 .f32) (x : S1x16.Idx) : laneSum a b x = plus (a x) (b x) := by
  have ha := congrFun (shapeCast_shapeCast a shapeCasts_S1x16_S16 shapeCasts_S16_S1x16) x
  have hb := congrFun (shapeCast_shapeCast b shapeCasts_S1x16_S16 shapeCasts_S16_S1x16) x
  exact congrArg₂ plus ha hb

abbrev laneRect (off : Fin 2 → ℕ) (inb : ∀ a, off a + S1x16.size a ≤ S128x128.size a) : Rect S128x128 :=
  Rect.unit (s := S128x128) off S1x16.size inb

/-- One lane group of one row, then the rest. -/
def lane (rows upb : Memref sig .scVector .vmem S128x128 .f32) (off : Fin 2 → ℕ)
    (inb : ∀ a, off a + S1x16.size a ≤ S128x128.size a) {α : Type} (k : PUnit → TP F L α) : TP F L α :=
  Prog.lift (.load rows (laneRect off inb).toLoadRect (View.loadsAt_vmem h_S1x16)) >>= fun a =>
  Prog.lift (.load upb (laneRect off inb).toLoadRect (View.loadsAt_vmem h_S1x16)) >>= fun b =>
  Prog.lift (.load rows (laneRect off inb).toLoadRect (View.loadsAt_vmem h_S1x16)) >>= fun _ =>
  Prog.lift (.store rows (laneRect off inb) (laneSum a b) Finset.univ (View.stores_vmem_bits_univ h_S1x16 rfl) (.inl rfl)) >>= k

/-- Rows below `r`, and lanes below `c` of row `r`, summed. -/
def summed (r c : ℕ) (v u : S128x128.Idx → Elt F .f32) : S128x128.Idx → Elt F .f32 :=
  fun x => if (x 0).val < r ∨ ((x 0).val = r ∧ (x 1).val < c) then plus (v x) (u x) else v x

theorem summed_zero (v u : S128x128.Idx → Elt F .f32) : summed 0 0 v u = v := by
  funext x; unfold summed; rw [if_neg (by omega)]

theorem summed_row (r : ℕ) (v u : S128x128.Idx → Elt F .f32) : summed r 128 v u = summed (r + 1) 0 v u := by
  funext x
  have h1 : (x 1).val < 128 := (x 1).isLt
  unfold summed
  by_cases h : (x 0).val < r + 1
  · rw [if_pos (by omega), if_pos (by omega)]
  · rw [if_neg (by omega), if_neg (by omega)]

theorem summed_apply (n : ℕ) (v u : S128x128.Idx → Elt F .f32) (x : S128x128.Idx) (h : (x 0).val < n) :
    summed n 0 v u x = plus (v x) (u x) := by
  unfold summed; rw [if_pos (.inl h)]

theorem lane_read (m : Memref sig .scVector .vmem S128x128 .f32) (off : Fin 2 → ℕ)
    (inb : ∀ a, off a + S1x16.size a ≤ S128x128.size a) (r c : ℕ) (hoff : off = ![r, c])
    (v u : S128x128.Idx → Elt F .f32) (f : m.view.ty.Contents (Elt F))
    (hf : m.view.read (Elt F) f = summed r c v u) (w : S1x16.Idx → Elt F .f32)
    (hw : ∀ x, w x = plus (m.view.read (Elt F) f ((laneRect off inb).emb x)) (u ((laneRect off inb).emb x))) :
    m.view.read (Elt F) (m.view.writes (Elt F) f [⟨laneRect off inb, w⟩]) = summed r (c + 16) v u := by
  funext y
  rw [View.read_writes_cons_unit m.view f inb w [] y hoff]
  split
  · next h =>
    have h0 := h 0
    have h1 := h 1
    change r ≤ (y 0).val ∧ (y 0).val < r + 1 at h0
    change c ≤ (y 1).val ∧ (y 1).val < c + 16 at h1
    rw [hw]
    have hy : (laneRect off inb).emb (Rect.unitLocal (s := S128x128) (off := ![r, c]) (size := S1x16.size) y h) = y := by
      subst hoff
      funext a
      apply Fin.ext
      show (![r, c] : Fin 2 → ℕ) a + 1 * _ = (y a).val
      have := h a
      rw [Rect.unitLocal_val]
      omega
    rw [hy, hf]
    unfold summed
    rw [if_neg (by omega), if_pos (by omega)]
  · next h =>
    show m.view.read (Elt F) f y = _
    rw [hf]
    unfold summed
    have : ¬ (r ≤ (y 0).val ∧ (y 0).val < r + 1 ∧ c ≤ (y 1).val ∧ (y 1).val < c + 16) := fun hh => h (by
      intro a
      fin_cases a
      · exact ⟨hh.1, hh.2.1⟩
      · exact hh.2.2)
    by_cases hl : (y 0).val < r ∨ ((y 0).val = r ∧ (y 1).val < c)
    · rw [if_pos hl, if_pos (by omega)]
    · rw [if_neg hl, if_neg (by omega)]

theorem wp_lane (rows upb : Memref sig .scVector .vmem S128x128 .f32) (off : Fin 2 → ℕ)
    (inb : ∀ a, off a + S1x16.size a ≤ S128x128.size a) (r c : ℕ) (hoff : off = ![r, c])
    (v u : S128x128.Idx → Elt F .f32) {α : Type} (k : PUnit → TP F L α) (Q : α → sProp 𝕄) :
    iprop(holds d L rows (summed r c v u) ∗ holds d L upb u)
      ⊢ iprop((iprop(holds d L rows (summed r (c + 16) v u) ∗ holds d L upb u) -∗ wpT (k ⟨⟩) Q)
          -∗ wpT (lane L rows upb off inb k) Q) := by
  unfold lane holds
  iintro ⟨⟨%f, %hf, Hr⟩, ⟨%g, %hg, Hu⟩⟩ Hk
  simp only [Prog.bind_lift]
  iapply (wp_load 𝒱₀ (VT d L) none Set.univ (m := rows) (View.setOn_subset_set _ _)) $$ Hr
  iintro Hr
  iapply (wp_load 𝒱₀ (VT d L) none Set.univ (m := upb) (View.setOn_subset_set _ _)) $$ Hu
  iintro Hu
  iapply (wp_load 𝒱₀ (VT d L) none Set.univ (m := rows) (View.setOn_subset_set _ _)) $$ Hr
  iintro Hr
  iapply (wp_store_writes₀ 𝒱₀ (VT d L) none Set.univ (m := rows) (View.set_slice_subset _ _)) $$ Hr
  iintro Hr
  iapply Hk
  isplitl [Hr]
  · iexists _
    isplitr
    rotate_left
    · iexact Hr
    · ipureintro
      refine lane_read rows off inb r c hoff v u f hf _ fun x => ?_
      rw [laneSum_apply, View.readAt_apply, View.readAt_apply, hg]
      rfl
  · iexists g
    isplitr
    · ipureintro; exact hg
    · iexact Hu

/-- One row: its eight lane groups in order. -/
def row (rows upb : Memref sig .scVector .vmem S128x128 .f32) (o₀ o₁ o₂ o₃ o₄ o₅ o₆ o₇ : Fin 2 → ℕ)
    (i₀ : ∀ a, o₀ a + S1x16.size a ≤ S128x128.size a) (i₁ : ∀ a, o₁ a + S1x16.size a ≤ S128x128.size a)
    (i₂ : ∀ a, o₂ a + S1x16.size a ≤ S128x128.size a) (i₃ : ∀ a, o₃ a + S1x16.size a ≤ S128x128.size a)
    (i₄ : ∀ a, o₄ a + S1x16.size a ≤ S128x128.size a) (i₅ : ∀ a, o₅ a + S1x16.size a ≤ S128x128.size a)
    (i₆ : ∀ a, o₆ a + S1x16.size a ≤ S128x128.size a) (i₇ : ∀ a, o₇ a + S1x16.size a ≤ S128x128.size a) : TP F L Unit :=
  lane L rows upb o₀ i₀ fun _ => lane L rows upb o₁ i₁ fun _ => lane L rows upb o₂ i₂ fun _ => lane L rows upb o₃ i₃ fun _ =>
  lane L rows upb o₄ i₄ fun _ => lane L rows upb o₅ i₅ fun _ => lane L rows upb o₆ i₆ fun _ => lane L rows upb o₇ i₇ fun _ => pure ⟨⟩

/-- A row's lane groups sum the row. -/
theorem wp_row (rows upb : Memref sig .scVector .vmem S128x128 .f32) (o₀ o₁ o₂ o₃ o₄ o₅ o₆ o₇ : Fin 2 → ℕ)
    (i₀ : ∀ a, o₀ a + S1x16.size a ≤ S128x128.size a) (i₁ : ∀ a, o₁ a + S1x16.size a ≤ S128x128.size a)
    (i₂ : ∀ a, o₂ a + S1x16.size a ≤ S128x128.size a) (i₃ : ∀ a, o₃ a + S1x16.size a ≤ S128x128.size a)
    (i₄ : ∀ a, o₄ a + S1x16.size a ≤ S128x128.size a) (i₅ : ∀ a, o₅ a + S1x16.size a ≤ S128x128.size a)
    (i₆ : ∀ a, o₆ a + S1x16.size a ≤ S128x128.size a) (i₇ : ∀ a, o₇ a + S1x16.size a ≤ S128x128.size a)
    (r : ℕ) (h₀ : o₀ = ![r, 0]) (h₁ : o₁ = ![r, 16]) (h₂ : o₂ = ![r, 32]) (h₃ : o₃ = ![r, 48])
    (h₄ : o₄ = ![r, 64]) (h₅ : o₅ = ![r, 80]) (h₆ : o₆ = ![r, 96]) (h₇ : o₇ = ![r, 112]) (v u : S128x128.Idx → Elt F .f32) :
    iprop(holds d L rows (summed r 0 v u) ∗ holds d L upb u)
      ⊢ wpT (row L rows upb o₀ o₁ o₂ o₃ o₄ o₅ o₆ o₇ i₀ i₁ i₂ i₃ i₄ i₅ i₆ i₇)
          (fun _ => iprop(holds d L rows (summed (r + 1) 0 v u) ∗ holds d L upb u)) := by
  unfold row
  rw [← summed_row]
  iintro H
  iapply (wp_lane d L rows upb o₀ i₀ r 0 h₀ v u) $$ H
  iintro H
  iapply (wp_lane d L rows upb o₁ i₁ r 16 h₁ v u) $$ H
  iintro H
  iapply (wp_lane d L rows upb o₂ i₂ r 32 h₂ v u) $$ H
  iintro H
  iapply (wp_lane d L rows upb o₃ i₃ r 48 h₃ v u) $$ H
  iintro H
  iapply (wp_lane d L rows upb o₄ i₄ r 64 h₄ v u) $$ H
  iintro H
  iapply (wp_lane d L rows upb o₅ i₅ r 80 h₅ v u) $$ H
  iintro H
  iapply (wp_lane d L rows upb o₆ i₆ r 96 h₆ v u) $$ H
  iintro H
  iapply (wp_lane d L rows upb o₇ i₇ r 112 h₇ v u) $$ H
  iintro H
  iapply (wpT_pure d L)
  iexact H

/-- What a row loop's region does, trip by trip. -/
abbrev RowOK (rows upb : Memref sig .scVector .vmem S128x128 .f32) {n : ℕ} (body : Fin n → Unit → TP F L Unit) : Prop :=
  ∀ (t : Fin n) (a : Unit) (v u : S128x128.Idx → Elt F .f32),
    (iprop(holds d L rows (summed t.val 0 v u) ∗ holds d L upb u) : sProp 𝕄)
      ⊢ wpT (body t a) (fun _ => iprop(holds d L rows (summed (t.val + 1) 0 v u) ∗ holds d L upb u))

/-- The row loop sums as many rows as it has trips. -/
theorem wp_rows (rows upb : Memref sig .scVector .vmem S128x128 .f32) (lp : Scf.Loop 32) (ok : lp.OK)
    (body : Fin lp.trips → Unit → TP F L Unit) (hb : RowOK d L rows upb body) (v u : S128x128.Idx → Elt F .f32)
    {α : Type} (k : Unit → TP F L α) (Q : α → sProp 𝕄) :
    iprop(holds d L rows v ∗ holds d L upb u)
      ⊢ iprop((iprop(holds d L rows (summed lp.trips 0 v u) ∗ holds d L upb u) -∗ wpT (k ⟨⟩) Q)
          -∗ wpT (Scf.Loop.for lp ok ⟨⟩ body >>= k) Q) := by
  have h := Scf.wp_for_bind (wpE := wpE (defs₀ (F := F)) 𝒱₀ (VT d L) none) frame Set.univ _ _ _ ok () body
    (fun n _ => (iprop(holds d L rows (summed n 0 v u) ∗ holds d L upb u) : sProp 𝕄)) (fun t a => hb t a v u)
    (kk := k) (Q := Q)
  rw [summed_zero] at h
  refine h.trans ?_
  iintro H Hk
  iapply H
  iintro %a HI
  iapply Hk
  iexact HI

end Cert.Proof.Gadd

end
-- ==== Proof.Chunks.lean ====
/-
  The rows of the array by chunks of 128: which chunks a tile takes, what the gather and the copy bring for a chunk, and
  the value the array ends with.
-/
module

public import proofs.«01_k».proof.Proof.RowLoop

@[expose] public section

noncomputable section

namespace Cert.Proof.Gadd

open Cert.KernelIdeal Cert.KernelIdeal.Gen

open Idealize.ShloMosaic
open Idealize.SL Idealize.SL.RA Idealize.SL.BI

variable {F : FTy → Type} [FloatOps F]

/-! ## Tiles and chunks -/

/-- A tile's number: two per subcore, one on each SparseCore. -/
abbrev wid (L : grid0.Coords) : ℕ := 2 * (L 1).val + (L 0).val

/-- How many chunks a tile takes, -/
def nOf (w : ℕ) : ℕ := if w < 2 then 123 else 122

/-- and the first of them. -/
def baseOf (w : ℕ) : ℕ := 122 * w + min w 2

abbrev nW (L : grid0.Coords) : ℕ := nOf (wid L)
abbrev base (L : grid0.Coords) : ℕ := baseOf (wid L)

theorem wid_lt (L : grid0.Coords) : wid L < 32 := by
  have h0 : (L 0).val < 2 := (L 0).isLt
  have h1 : (L 1).val < 16 := (L 1).isLt
  unfold wid; omega

theorem nW_bounds (L : grid0.Coords) : 122 ≤ nW L ∧ nW L ≤ 123 := by
  unfold nW nOf; split <;> omega

theorem base_add_lt (L : grid0.Coords) (j : ℕ) (h : j < nW L) : base L + j < 3906 := by
  have := wid_lt L
  unfold nW nOf at h
  unfold base baseOf
  split at h <;> omega

/-! ## Indices, any number reduced into range -/

def ixI (r : ℕ) : S500000.Idx := fun a => ⟨r % S500000.size a, Nat.mod_lt _ (by fin_cases a; decide)⟩
def ixX (r l : ℕ) : S100000x128.Idx := fun a => ⟨(![r, l] : Fin 2 → ℕ) a % S100000x128.size a, Nat.mod_lt _ (by fin_cases a <;> decide)⟩
def ixO (r l : ℕ) : S500000x128.Idx := fun a => ⟨(![r, l] : Fin 2 → ℕ) a % S500000x128.size a, Nat.mod_lt _ (by fin_cases a <;> decide)⟩

theorem ixO_self (p : S500000x128.Idx) : ixO (p 0).val (p 1).val = p := by
  funext a; apply Fin.ext
  have h0 : (p 0).val < 500000 := (p 0).isLt
  have h1 : (p 1).val < 128 := (p 1).isLt
  fin_cases a
  · exact Nat.mod_eq_of_lt h0
  · exact Nat.mod_eq_of_lt h1

/-! ## Values -/

variable (X : S100000x128.Idx → Elt F .f32) (U : S500000x128.Idx → Elt F .f32) (I : S500000.Idx → Elt F .i32)

/-- The array's final value: at row `r`, row `I r` of the table plus row `r` of the features. -/
def G (p : S500000x128.Idx) : Elt F .f32 :=
  plus (X (ixX (I (ixI (p 0).val)).toNat (p 1).val)) (U p)

/-- What the gather brings for chunk `c`, -/
def gch (c : ℕ) : S128x128.Idx → Elt F .f32 := fun x => X (ixX (I (ixI (128 * c + (x 0).val))).toNat (x 1).val)
/-- what the copy brings, -/
def uch (c : ℕ) : S128x128.Idx → Elt F .f32 := fun x => U (ixO (128 * c + (x 0).val) (x 1).val)
/-- and their sum, the chunk's final value. -/
def sch (c : ℕ) : S128x128.Idx → Elt F .f32 := fun x => plus (gch X I c x) (uch U c x)

theorem sch_eq (c : ℕ) (x : S128x128.Idx) (h : 128 * c + (x 0).val < 500000) :
    sch X U I c x = G X U I (ixO (128 * c + (x 0).val) (x 1).val) := by
  have h1 : (x 1).val < 128 := (x 1).isLt
  have e0 : (ixO (128 * c + (x 0).val) (x 1).val 0).val = 128 * c + (x 0).val := Nat.mod_eq_of_lt h
  have e1 : (ixO (128 * c + (x 0).val) (x 1).val 1).val = (x 1).val := Nat.mod_eq_of_lt h1
  unfold sch gch uch G
  rw [e0, e1]

/-! ## Chunks of the array -/

/-- The elements of chunk `c`: 128 rows, or the 32 left at the end. -/
def blk (c : ℕ) : Finset S500000x128.Idx := Finset.univ.filter fun p => (p 0).val / 128 = c

theorem mem_blk (c : ℕ) (p : S500000x128.Idx) : p ∈ blk c ↔ (p 0).val / 128 = c := by
  unfold blk; rw [Finset.mem_filter]; exact ⟨fun h => h.2, fun h => ⟨Finset.mem_univ _, h⟩⟩

theorem blk_disjoint (c c' : ℕ) (h : c ≠ c') : Disjoint (blk c) (blk c') :=
  Finset.disjoint_left.mpr fun p hp hp' => h ((((mem_blk c p).mp hp).symm).trans ((mem_blk c' p).mp hp'))

/-- A window of 128 whole rows at `128 * c` is chunk `c`. -/
theorem set_window {off : Fin 2 → ℕ} (inb : ∀ a, off a + S128x128.size a ≤ S500000x128.size a) (c : ℕ) (h : off = ![128 * c, 0]) :
    (Rect.unit (s := S500000x128) off S128x128.size inb).set = blk c := by
  subst h
  ext p
  have h1 : (p 1).val < 128 := (p 1).isLt
  rw [Rect.mem_set_unit, mem_blk]
  constructor
  · intro hh
    have := hh 0
    change 128 * c ≤ (p 0).val ∧ (p 0).val < 128 * c + 128 at this
    omega
  · intro hh a
    fin_cases a
    · show 128 * c ≤ (p 0).val ∧ (p 0).val < 128 * c + 128
      omega
    · show 0 ≤ (p 1).val ∧ (p 1).val < 0 + 128
      omega

/-- The last 32 rows are chunk 3906. -/
theorem set_tail (inb : ∀ a, (![499968, 0] : Fin 2 → ℕ) a + S32x128.size a ≤ S500000x128.size a) :
    (Rect.unit (s := S500000x128) ![499968, 0] S32x128.size inb).set = blk 3906 := by
  ext p
  have h0 : (p 0).val < 500000 := (p 0).isLt
  have h1 : (p 1).val < 128 := (p 1).isLt
  rw [Rect.mem_set_unit, mem_blk]
  constructor
  · intro hh
    have := hh 0
    change 499968 ≤ (p 0).val ∧ (p 0).val < 499968 + 32 at this
    omega
  · intro hh a
    fin_cases a
    · show 499968 ≤ (p 0).val ∧ (p 0).val < 499968 + 32
      omega
    · show 0 ≤ (p 1).val ∧ (p 1).val < 0 + 128
      omega

/-- Index `x` of a window at rows `128 * c`. -/
theorem emb_window {off : Fin 2 → ℕ} (inb : ∀ a, off a + S128x128.size a ≤ S500000x128.size a) (c : ℕ) (h : off = ![128 * c, 0])
    (x : S128x128.Idx) : (Rect.unit (s := S500000x128) off S128x128.size inb).emb x = ixO (128 * c + (x 0).val) (x 1).val := by
  subst h
  have h0 : 128 * c + 128 ≤ 500000 := inb 0
  have hx0 : (x 0).val < 128 := (x 0).isLt
  have hx1 : (x 1).val < 128 := (x 1).isLt
  funext a; apply Fin.ext
  fin_cases a
  · show 128 * c + 1 * (x 0).val = (128 * c + (x 0).val) % 500000
    rw [Nat.mod_eq_of_lt (by omega)]; omega
  · show 0 + 1 * (x 1).val = (x 1).val % 128
    rw [Nat.mod_eq_of_lt (by omega)]; omega

theorem emb_tail (inb : ∀ a, (![499968, 0] : Fin 2 → ℕ) a + S32x128.size a ≤ S500000x128.size a)
    (x : S32x128.Idx) : (Rect.unit (s := S500000x128) ![499968, 0] S32x128.size inb).emb x = ixO (499968 + (x 0).val) (x 1).val := by
  have hx0 : (x 0).val < 32 := (x 0).isLt
  have hx1 : (x 1).val < 128 := (x 1).isLt
  funext a; apply Fin.ext
  fin_cases a
  · show 499968 + 1 * (x 0).val = (499968 + (x 0).val) % 500000
    rw [Nat.mod_eq_of_lt (by omega)]; omega
  · show 0 + 1 * (x 1).val = (x 1).val % 128
    rw [Nat.mod_eq_of_lt (by omega)]; omega

/-! ## The kernel's conditions, as inequalities on chunk numbers -/

theorem trips_t1 : k0_t1_loop.trips = 42 := by decide +kernel
theorem trips_t2 : k0_t2_loop.trips = 128 := by decide +kernel
theorem trips_t3 : k0_t3_loop.trips = 128 := by decide +kernel
theorem trips_t4 : k0_t4_loop.trips = 128 := by decide +kernel
theorem trips_t5 : k0_t5_loop.trips = 32 := by decide +kernel

theorem cond1_iff : ∀ L : grid0.Coords, k0_cond1 L = 1#1 ↔ wid L < 2 := by decide +kernel
theorem cond2_one : ∀ L : grid0.Coords, k0_cond2 L = 1#1 := by decide +kernel
theorem cond12_iff : ∀ L : grid0.Coords, k0_cond12 L = 1#1 ↔ wid L = 0 := by decide +kernel
theorem cond3_iff : ∀ (L : grid0.Coords) (t : Fin k0_t1_loop.trips), k0_cond3 L t = 1#1 ↔ 3 * t.val + 1 < nW L := by decide +kernel
theorem cond5_iff : ∀ (L : grid0.Coords) (t : Fin k0_t1_loop.trips), k0_cond5 L t = 1#1 ↔ 3 * t.val < nW L := by decide +kernel
theorem cond6_iff : ∀ (L : grid0.Coords) (t : Fin k0_t1_loop.trips), k0_cond6 L t = 1#1 ↔ 3 * t.val + 2 < nW L := by decide +kernel
theorem cond8_iff : ∀ (L : grid0.Coords) (t : Fin k0_t1_loop.trips), k0_cond8 L t = 1#1 ↔ 3 * t.val + 1 < nW L := by decide +kernel
theorem cond9_iff : ∀ (L : grid0.Coords) (t : Fin k0_t1_loop.trips), k0_cond9 L t = 1#1 ↔ 3 * t.val + 3 < nW L := by decide +kernel
theorem cond11_iff : ∀ (L : grid0.Coords) (t : Fin k0_t1_loop.trips), k0_cond11 L t = 1#1 ↔ 3 * t.val + 2 < nW L := by decide +kernel

/-- The guard "is this chunk at least the fourth", of chunk `3 * t + 1 + b`. -/
def again (b : BitVec 32) (t : Fin k0_t1_loop.trips) : BitVec 1 :=
  Scalar.cmpi .ne (Scalar.extui (Scalar.cmpi .sge (Scalar.addi (Scalar.addi 1#32 (Scalar.muli 3#32 (Scf.iv 0#32 1#32 t))) b) 3#32) : BitVec 32) 0#32

theorem again0_iff : ∀ t : Fin k0_t1_loop.trips, again 0#32 t = 1#1 ↔ 3 ≤ 3 * t.val + 1 := by decide +kernel
theorem again1_iff : ∀ t : Fin k0_t1_loop.trips, again 1#32 t = 1#1 ↔ 3 ≤ 3 * t.val + 2 := by decide +kernel
theorem again2_iff : ∀ t : Fin k0_t1_loop.trips, again 2#32 t = 1#1 ↔ 3 ≤ 3 * t.val + 3 := by decide +kernel

end Cert.Proof.Gadd

end
-- ==== Proof.RowBodies.lean ====
/-
  The kernel's four row loops: each trip's text is a `row` of the slot's buffers, so each trip sums one row.
-/
module

public import proofs.«01_k».proof.Proof.RowLoop

@[expose] public section

noncomputable section

namespace Cert.Proof.Gadd

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)
  (arg2 : Memref sig .scVector .hbm S100000x128 .f32) (harg2 : arg2.IsWhole) (arg3 : Memref sig .scVector .hbm S500000x128 .f32) (harg3 : arg3.IsWhole)
  (arg4 : Memref sig .scVector .hbm S500000 .i32) (harg4 : arg4.IsWhole) (arg5 : Memref sig .scVector .hbm S500000x128 .f32) (harg5 : arg5.IsWhole)
  (arg6 : Memref sig .scVector .vmem S15872 .i32) (harg6 : arg6.IsWhole) (arg7 : Memref sig .scVector .vmem S128x128 .f32) (harg7 : arg7.IsWhole)
  (arg8 : Memref sig .scVector .vmem S128x128 .f32) (harg8 : arg8.IsWhole) (arg9 : Memref sig .scVector .vmem S128x128 .f32) (harg9 : arg9.IsWhole)
  (arg10 : Memref sig .scVector .vmem S128x128 .f32) (harg10 : arg10.IsWhole) (arg11 : Memref sig .scVector .vmem S128x128 .f32) (harg11 : arg11.IsWhole)
  (arg12 : Memref sig .scVector .vmem S128x128 .f32) (harg12 : arg12.IsWhole)
  (arg13 arg14 arg15 arg16 arg17 arg18 arg19 arg20 arg21 arg22 v26_r0 v28_r1 v33_r2 v33_r3 v33_r4 : DmaSems sig S_)

set_option maxRecDepth 65536 in
theorem rows_t2 (t1 : Fin k0_t1_loop.trips) (h5 : k0_cond5 L t1 = 1#1) :
    RowOK (F := F) d L arg7 arg10 (k0_t2_body L arg2 harg2 arg3 harg3 arg4 harg4 arg5 harg5 arg6 harg6 arg7 harg7 arg8 harg8 arg9 harg9 arg10 harg10 arg11 harg11 arg12 harg12
      arg13 arg14 arg15 arg16 arg17 arg18 arg19 arg20 arg21 arg22 v26_r0 v28_r1 v33_r2 v33_r3 v33_r4 t1 h5) := fun t a v u =>
  wp_row d L arg7 arg10 (k0_off6 t) (k0_off7 t) (k0_off8 t) (k0_off9 t) (k0_off10 t) (k0_off11 t) (k0_off12 t) (k0_off13 t)
    (k0_off6_inb L t1 t h5) (k0_off7_inb L t1 t h5) (k0_off8_inb L t1 t h5) (k0_off9_inb L t1 t h5) (k0_off10_inb L t1 t h5)
    (k0_off11_inb L t1 t h5) (k0_off12_inb L t1 t h5) (k0_off13_inb L t1 t h5) t.val
    (k0_off6_eq t) (k0_off7_eq t) (k0_off8_eq t) (k0_off9_eq t) (k0_off10_eq t) (k0_off11_eq t) (k0_off12_eq t) (k0_off13_eq t) v u

set_option maxRecDepth 65536 in
theorem rows_t3 (t1 : Fin k0_t1_loop.trips) (h8 : k0_cond8 L t1 = 1#1) :
    RowOK (F := F) d L arg8 arg11 (k0_t3_body L arg2 harg2 arg3 harg3 arg4 harg4 arg5 harg5 arg6 harg6 arg7 harg7 arg8 harg8 arg9 harg9 arg10 harg10 arg11 harg11 arg12 harg12
      arg13 arg14 arg15 arg16 arg17 arg18 arg19 arg20 arg21 arg22 v26_r0 v28_r1 v33_r2 v33_r3 v33_r4 t1 h8) := fun t a v u =>
  wp_row d L arg8 arg11 (k0_off17 t) (k0_off18 t) (k0_off19 t) (k0_off20 t) (k0_off21 t) (k0_off22 t) (k0_off23 t) (k0_off24 t)
    (k0_off17_inb L t1 t h8) (k0_off18_inb L t1 t h8) (k0_off19_inb L t1 t h8) (k0_off20_inb L t1 t h8) (k0_off21_inb L t1 t h8)
    (k0_off22_inb L t1 t h8) (k0_off23_inb L t1 t h8) (k0_off24_inb L t1 t h8) t.val
    (k0_off17_eq t) (k0_off18_eq t) (k0_off19_eq t) (k0_off20_eq t) (k0_off21_eq t) (k0_off22_eq t) (k0_off23_eq t) (k0_off24_eq t) v u

set_option maxRecDepth 65536 in
theorem rows_t4 (t1 : Fin k0_t1_loop.trips) (h11 : k0_cond11 L t1 = 1#1) :
    RowOK (F := F) d L arg9 arg12 (k0_t4_body L arg2 harg2 arg3 harg3 arg4 harg4 arg5 harg5 arg6 harg6 arg7 harg7 arg8 harg8 arg9 harg9 arg10 harg10 arg11 harg11 arg12 harg12
      arg13 arg14 arg15 arg16 arg17 arg18 arg19 arg20 arg21 arg22 v26_r0 v28_r1 v33_r2 v33_r3 v33_r4 t1 h11) := fun t a v u =>
  wp_row d L arg9 arg12 (k0_off28 t) (k0_off29 t) (k0_off30 t) (k0_off31 t) (k0_off32 t) (k0_off33 t) (k0_off34 t) (k0_off35 t)
    (k0_off28_inb L t1 t h11) (k0_off29_inb L t1 t h11) (k0_off30_inb L t1 t h11) (k0_off31_inb L t1 t h11) (k0_off32_inb L t1 t h11)
    (k0_off33_inb L t1 t h11) (k0_off34_inb L t1 t h11) (k0_off35_inb L t1 t h11) t.val
    (k0_off28_eq t) (k0_off29_eq t) (k0_off30_eq t) (k0_off31_eq t) (k0_off32_eq t) (k0_off33_eq t) (k0_off34_eq t) (k0_off35_eq t) v u

set_option maxRecDepth 65536 in
theorem rows_t5 (h12 : k0_cond12 L = 1#1) :
    RowOK (F := F) d L arg7 arg10 (k0_t5_body L arg2 harg2 arg3 harg3 arg4 harg4 arg5 harg5 arg6 harg6 arg7 harg7 arg8 harg8 arg9 harg9 arg10 harg10 arg11 harg11 arg12 harg12
      arg13 arg14 arg15 arg16 arg17 arg18 arg19 arg20 arg21 arg22 v26_r0 v28_r1 v33_r2 v33_r3 v33_r4 h12) := fun t a v u =>
  wp_row d L arg7 arg10 (k0_off37 t) (k0_off38 t) (k0_off39 t) (k0_off40 t) (k0_off41 t) (k0_off42 t) (k0_off43 t) (k0_off44 t)
    (k0_off37_inb L t h12) (k0_off38_inb L t h12) (k0_off39_inb L t h12) (k0_off40_inb L t h12) (k0_off41_inb L t h12)
    (k0_off42_inb L t h12) (k0_off43_inb L t h12) (k0_off44_inb L t h12) t.val
    (k0_off37_eq t) (k0_off38_eq t) (k0_off39_eq t) (k0_off40_eq t) (k0_off41_eq t) (k0_off42_eq t) (k0_off43_eq t) (k0_off44_eq t) v u

end Cert.Proof.Gadd

end
-- ==== Proof.Issue.lean ====
/-
  The two halves of the pipeline at one slot, as the kernel's text has them: ISSUE a chunk's gather and copy (after the
  slot's write of three chunks before, if there was one), and COMPUTE a chunk (wait for both, sum, start the write).
-/
module

public import proofs.«01_k».proof.Proof.Chunks
public import proofs.«01_k».proof.Proof.RowBodies

@[expose] public section

noncomputable section

namespace Cert.Proof.Gadd

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

local notation "wpT" => wp frame (wpE (defs₀ (F := F)) 𝒱₀ (VT d L) none) Set.univ

/-! ## The buffers -/

abbrev xV : Memref sig .scVector .hbm S100000x128 .f32 := Memref.whole main_arg0_scv
abbrev uV : Memref sig .scVector .hbm S500000x128 .f32 := Memref.whole main_arg1_scv
abbrev iV : Memref sig .scVector .hbm S500000 .i32 := Memref.whole main_arg2_scv
abbrev oV : Memref sig .scVector .hbm S500000x128 .f32 := Memref.whole main_v0_scv
abbrev aV : Memref sig .scVector .vmem S15872 .i32 := Memref.whole cc0_scratch0

/-- A slot: its two buffers and its three semaphores. -/
structure Slot where
  rows : Memref sig .scVector .vmem S128x128 .f32
  upb : Memref sig .scVector .vmem S128x128 .f32
  sg : DmaSem sig
  su : DmaSem sig
  so : DmaSem sig
  hrows : rows.IsWhole
  hupb : upb.IsWhole

abbrev slot0 : Slot := ⟨Memref.whole cc0_scratch1, Memref.whole cc0_scratch4, cc0_scratch7.sem, cc0_scratch10.sem, cc0_scratch13.sem,
  Memref.isWhole_whole _, Memref.isWhole_whole _⟩
abbrev slot1 : Slot := ⟨Memref.whole cc0_scratch2, Memref.whole cc0_scratch5, cc0_scratch8.sem, cc0_scratch11.sem, cc0_scratch14.sem,
  Memref.isWhole_whole _, Memref.isWhole_whole _⟩
abbrev slot2 : Slot := ⟨Memref.whole cc0_scratch3, Memref.whole cc0_scratch6, cc0_scratch9.sem, cc0_scratch12.sem, cc0_scratch15.sem,
  Memref.isWhole_whole _, Memref.isWhole_whole _⟩

/-! ## The text -/

/-- The window a wait for a write names. -/
abbrev oW : Memref sig .scVector .hbm S128x128 .f32 :=
  oV.slice (Rect.unit (s := S500000x128) ![0, 0] S128x128.size inb_S500000x128_S128x128_0_0) (fun _ => rfl)
/-- The window a wait for a copy names. -/
abbrev uW : Memref sig .scVector .hbm S128x128 .f32 :=
  uV.slice (Rect.unit (s := S500000x128) ![0, 0] S128x128.size inb_S500000x128_S128x128_0_0) (fun _ => rfl)
/-- The table as a gather names it. -/
abbrev xW : Memref sig .scVector .hbm S100000x128 .f32 :=
  xV.slice (Rect.unit (s := S100000x128) ![0, 0] S100000x128.size inb_S100000x128_S100000x128_0_0) (fun _ => rfl)
abbrev aW (off : Fin 1 → ℕ) (inb : ∀ a, off a + S128.size a ≤ S15872.size a) : Memref sig .scVector .vmem S128 .i32 :=
  aV.slice (Rect.unit (s := S15872) off S128.size inb) (fun _ => rfl)
abbrev uC (off : Fin 2 → ℕ) (inb : ∀ a, off a + S128x128.size a ≤ S500000x128.size a) : Memref sig .scVector .hbm S128x128 .f32 :=
  uV.slice (Rect.unit (s := S500000x128) off S128x128.size inb) (fun _ => rfl)
abbrev oC (off : Fin 2 → ℕ) (inb : ∀ a, off a + S128x128.size a ≤ S500000x128.size a) : Memref sig .scVector .hbm S128x128 .f32 :=
  oV.slice (Rect.unit (s := S500000x128) off S128x128.size inb) (fun _ => rfl)

/-- The gather and the copy of a chunk. -/
def loadK (s : Slot) (offA : Fin 1 → ℕ) (inbA : ∀ a, offA a + S128.size a ≤ S15872.size a)
    (offU : Fin 2 → ℕ) (inbU : ∀ a, offU a + S128x128.size a ≤ S500000x128.size a) {α : Type} (k : PUnit → TP F L α) : TP F L α :=
  SparseCore.enqueueIndirectGather rfl xW s.rows gathers_S100000x128_S128x128 (aW offA inbA) rfl s.sg (View.wordExact_bits rfl) rfl (Or.inl rfl) >>= fun _ =>
  Prog.lift (.enqueueDma (uC offU inbU) (.here s.upb) (.dma s.su) (View.wordExact_bits rfl) s.hupb.wordExact ⟨Or.inl rfl, trivial⟩) >>= k

/-- Issue: nothing, if the tile has no such chunk; else, if the slot has written before, wait for that; then load. -/
def issueK (s : Slot) (c c' : BitVec 1) (offA : Fin 1 → ℕ) (inbA : c = 1#1 → ∀ a, offA a + S128.size a ≤ S15872.size a)
    (offU : Fin 2 → ℕ) (inbU : c = 1#1 → ∀ a, offU a + S128x128.size a ≤ S500000x128.size a) {α : Type} (k : PUnit → TP F L α) : TP F L α :=
  if h : c = 1#1 then
    if h' : c' = 1#1 then
      Prog.lift (.waitDma2 s.so s.rows oW s.hrows.wordExact (View.wordExact_bits rfl)) >>= fun _ =>
        loadK L s offA (inbA h) offU (inbU h) k
    else loadK L s offA (inbA h) offU (inbU h) k
  else k ⟨⟩

/-- Compute: nothing, if the tile has no such chunk; else wait for its loads, sum row by row, start the write. -/
def computeK (s : Slot) (c : BitVec 1) (lp : Scf.Loop 32) (ok : c = 1#1 → lp.OK) (body : c = 1#1 → Fin lp.trips → Unit → TP F L Unit)
    (offO : Fin 2 → ℕ) (inbO : c = 1#1 → ∀ a, offO a + S128x128.size a ≤ S500000x128.size a) {α : Type} (k : PUnit → TP F L α) : TP F L α :=
  if h : c = 1#1 then
    SparseCore.waitIndirectGather s.sg xW s.rows (View.wordExact_bits rfl) s.hrows.wordExact >>= fun _ =>
    Prog.lift (.waitDma2 s.su uW s.upb (View.wordExact_bits rfl) s.hupb.wordExact) >>= fun _ =>
    Scf.Loop.for lp (ok h) ⟨⟩ (body h) >>= fun _ =>
    Prog.lift (.enqueueDma s.rows (.here (oC offO (inbO h))) (.dma s.so) s.hrows.wordExact (View.wordExact_bits rfl) ⟨Or.inl rfl, trivial⟩) >>= k
  else k ⟨⟩

/-- The kernel's row loops and its outer loop's region at the launch's buffers. -/
abbrev body2 (t : Fin k0_t1_loop.trips) (h : k0_cond5 L t = 1#1) : Fin k0_t2_loop.trips → Unit → TP F L Unit :=
  k0_t2_body L xV (Memref.isWhole_whole _) uV (Memref.isWhole_whole _) iV (Memref.isWhole_whole _) oV (Memref.isWhole_whole _) aV (Memref.isWhole_whole _)
    (Memref.whole cc0_scratch1) (Memref.isWhole_whole _) (Memref.whole cc0_scratch2) (Memref.isWhole_whole _) (Memref.whole cc0_scratch3) (Memref.isWhole_whole _)
    (Memref.whole cc0_scratch4) (Memref.isWhole_whole _) (Memref.whole cc0_scratch5) (Memref.isWhole_whole _) (Memref.whole cc0_scratch6) (Memref.isWhole_whole _)
    cc0_scratch7 cc0_scratch8 cc0_scratch9 cc0_scratch10 cc0_scratch11 cc0_scratch12 cc0_scratch13 cc0_scratch14 cc0_scratch15 cc0_scratch16
    cc0_scoped0 cc0_scoped1 cc0_scoped2 cc0_scoped3 cc0_scoped4 t h
abbrev body3 (t : Fin k0_t1_loop.trips) (h : k0_cond8 L t = 1#1) : Fin k0_t3_loop.trips → Unit → TP F L Unit :=
  k0_t3_body L xV (Memref.isWhole_whole _) uV (Memref.isWhole_whole _) iV (Memref.isWhole_whole _) oV (Memref.isWhole_whole _) aV (Memref.isWhole_whole _)
    (Memref.whole cc0_scratch1) (Memref.isWhole_whole _) (Memref.whole cc0_scratch2) (Memref.isWhole_whole _) (Memref.whole cc0_scratch3) (Memref.isWhole_whole _)
    (Memref.whole cc0_scratch4) (Memref.isWhole_whole _) (Memref.whole cc0_scratch5) (Memref.isWhole_whole _) (Memref.whole cc0_scratch6) (Memref.isWhole_whole _)
    cc0_scratch7 cc0_scratch8 cc0_scratch9 cc0_scratch10 cc0_scratch11 cc0_scratch12 cc0_scratch13 cc0_scratch14 cc0_scratch15 cc0_scratch16
    cc0_scoped0 cc0_scoped1 cc0_scoped2 cc0_scoped3 cc0_scoped4 t h
abbrev body4 (t : Fin k0_t1_loop.trips) (h : k0_cond11 L t = 1#1) : Fin k0_t4_loop.trips → Unit → TP F L Unit :=
  k0_t4_body L xV (Memref.isWhole_whole _) uV (Memref.isWhole_whole _) iV (Memref.isWhole_whole _) oV (Memref.isWhole_whole _) aV (Memref.isWhole_whole _)
    (Memref.whole cc0_scratch1) (Memref.isWhole_whole _) (Memref.whole cc0_scratch2) (Memref.isWhole_whole _) (Memref.whole cc0_scratch3) (Memref.isWhole_whole _)
    (Memref.whole cc0_scratch4) (Memref.isWhole_whole _) (Memref.whole cc0_scratch5) (Memref.isWhole_whole _) (Memref.whole cc0_scratch6) (Memref.isWhole_whole _)
    cc0_scratch7 cc0_scratch8 cc0_scratch9 cc0_scratch10 cc0_scratch11 cc0_scratch12 cc0_scratch13 cc0_scratch14 cc0_scratch15 cc0_scratch16
    cc0_scoped0 cc0_scoped1 cc0_scoped2 cc0_scoped3 cc0_scoped4 t h
abbrev body1 : Fin k0_t1_loop.trips → BitVec 32 → TP F L (BitVec 32) :=
  k0_t1_body L xV (Memref.isWhole_whole _) uV (Memref.isWhole_whole _) iV (Memref.isWhole_whole _) oV (Memref.isWhole_whole _) aV (Memref.isWhole_whole _)
    (Memref.whole cc0_scratch1) (Memref.isWhole_whole _) (Memref.whole cc0_scratch2) (Memref.isWhole_whole _) (Memref.whole cc0_scratch3) (Memref.isWhole_whole _)
    (Memref.whole cc0_scratch4) (Memref.isWhole_whole _) (Memref.whole cc0_scratch5) (Memref.isWhole_whole _) (Memref.whole cc0_scratch6) (Memref.isWhole_whole _)
    cc0_scratch7 cc0_scratch8 cc0_scratch9 cc0_scratch10 cc0_scratch11 cc0_scratch12 cc0_scratch13 cc0_scratch14 cc0_scratch15 cc0_scratch16
    cc0_scoped0 cc0_scoped1 cc0_scoped2 cc0_scoped3 cc0_scoped4

/-- A trip of the outer loop: three times, issue a chunk at the next slot and compute the one before at this slot. -/
theorem body1_eq (t : Fin k0_t1_loop.trips) (a : BitVec 32) :
    body1 (F := F) L t a =
      issueK L slot1 (k0_cond3 L t) (again 0#32 t) (k0_off4 t) (fun h => k0_off4_inb L t h) (k0_off5 L t) (fun h => k0_off5_inb L t h) fun _ =>
      computeK L slot0 (k0_cond5 L t) k0_t2_loop (k0_t2_ok L t) (body2 L t) (k0_off14 L t) (fun h => k0_off14_inb L t h) fun _ =>
      issueK L slot2 (k0_cond6 L t) (again 1#32 t) (k0_off15 t) (fun h => k0_off15_inb L t h) (k0_off16 L t) (fun h => k0_off16_inb L t h) fun _ =>
      computeK L slot1 (k0_cond8 L t) k0_t3_loop (k0_t3_ok L t) (body3 L t) (k0_off25 L t) (fun h => k0_off25_inb L t h) fun _ =>
      issueK L slot0 (k0_cond9 L t) (again 2#32 t) (k0_off26 t) (fun h => k0_off26_inb L t h) (k0_off27 L t) (fun h => k0_off27_inb L t h) fun _ =>
      computeK L slot2 (k0_cond11 L t) k0_t4_loop (k0_t4_ok L t) (body4 L t) (k0_off36 L t) (fun h => k0_off36_inb L t h) fun _ =>
      pure 0#32 := by
  rfl

end Cert.Proof.Gadd

end
-- ==== Proof.Steps.lean ====
/-
  The states of a slot, and what issuing and computing a chunk do to them.
-/
module

public import proofs.«01_k».proof.Proof.Issue

@[expose] public section

noncomputable section

namespace Cert.Proof.Gadd

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

local notation "wpT" => wp frame (wpE (defs₀ (F := F)) 𝒱₀ (VT d L) none) Set.univ

/-! ## What the windows read -/

/-- The arena's index `k`. -/
def ixA (k : ℕ) : S15872.Idx := fun a => ⟨k % S15872.size a, Nat.mod_lt _ (by fin_cases a; decide)⟩

/-- The arena holds the row numbers of the tile's chunks in order. -/
def ArenaOK (I : S500000.Idx → Elt F .i32) (fa : S15872.Idx → Elt F .i32) : Prop :=
  ∀ k, k < 128 * nW L → fa (ixA k) = I (ixI (128 * base L + k))

/-- Every row number names a row of the table. -/
def InRange (I : S500000.Idx → Elt F .i32) : Prop := ∀ n, (I n).toNat < 100000

theorem read_aW {off : Fin 1 → ℕ} (inb : ∀ a, off a + S128.size a ≤ S15872.size a) (o : ℕ) (h : off = ![o]) (fa : S15872.Idx → Elt F .i32)
    (x : S128.Idx) : (aW off inb).view.read (Elt F) fa x = fa (ixA (o + (x 0).val)) := by
  subst h
  have h0 : o + 128 ≤ 15872 := inb 0
  have hx : (x 0).val < 128 := (x 0).isLt
  refine congrArg fa ?_
  funext a; apply Fin.ext
  fin_cases a
  show o + 1 * (x 0).val = (o + (x 0).val) % 15872
  rw [Nat.mod_eq_of_lt (by omega)]; omega

theorem arena_at {I : S500000.Idx → Elt F .i32} {fa : S15872.Idx → Elt F .i32} (hA : ArenaOK L I fa) {off : Fin 1 → ℕ}
    (inb : ∀ a, off a + S128.size a ≤ S15872.size a) (j : ℕ) (h : off = ![128 * j]) (hj : j < nW L) (x : S128.Idx) :
    (aW off inb).view.read (Elt F) fa x = I (ixI (128 * (base L + j) + (x 0).val)) := by
  have hx : (x 0).val < 128 := (x 0).isLt
  rw [read_aW inb (128 * j) h, hA _ (by omega)]
  congr 2; omega

/-- The gather's payload for chunk `j` of the tile. -/
theorem gather_eq {X : S100000x128.Idx → Elt F .f32} {I : S500000.Idx → Elt F .i32} {fa : S15872.Idx → Elt F .i32} (hA : ArenaOK L I fa)
    {off : Fin 1 → ℕ} (inb : ∀ a, off a + S128.size a ≤ S15872.size a) (j : ℕ) (h : off = ![128 * j]) (hj : j < nW L)
    (hin : ∀ x, ((aW off inb).view.read (Elt F) fa x).toNat < S100000x128.size gathers_S100000x128_S128x128.axis) :
    SparseCore.gatherPayload gathers_S100000x128_S128x128 (xW.view.read (Elt F) X)
      (SparseCore.rows ((aW off inb).view.read (Elt F) fa) rfl hin) = gch X I (base L + j) := by
  funext x
  have hx1 : (x 1).val < 128 := (x 1).isLt
  have hk : ∀ y : S128.Idx, (y 0).val = (x 0).val → ((aW off inb).view.read (Elt F) fa y).toNat = (I (ixI (128 * (base L + j) + (x 0).val))).toNat := by
    intro y hy
    rw [arena_at L hA inb j h hj, hy]
  refine congrArg X ?_
  funext a; apply Fin.ext
  fin_cases a
  · show 0 + 1 * (gathers_S100000x128_S128x128.idx _ x gathers_S100000x128_S128x128.axis).val = _ % 100000
    rw [Shape.Gathers.idx_axis]
    show 0 + 1 * ((aW off inb).view.read (Elt F) fa (S128.rowMajor.symm _)).toNat = (I (ixI (128 * (base L + j) + (x 0).val))).toNat % 100000
    have e := hk (S128.rowMajor.symm ((x 0).cast rfl)) (by
      rw [← Shape.rowMajor_val_one, Equiv.apply_symm_apply]; rfl)
    have hl := hin (S128.rowMajor.symm ((x 0).cast rfl))
    change _ < 100000 at hl
    rw [← e, Nat.mod_eq_of_lt hl, Nat.zero_add, Nat.one_mul]
    rfl
  · show 0 + 1 * (gathers_S100000x128_S128x128.idx _ x 1).val = (x 1).val % 128
    rw [Shape.Gathers.idx_of_ne _ _ _ _ (by decide), Nat.mod_eq_of_lt hx1, Nat.zero_add, Nat.one_mul]
    rfl

theorem read_uC (U : S500000x128.Idx → Elt F .f32) {off : Fin 2 → ℕ} (inb : ∀ a, off a + S128x128.size a ≤ S500000x128.size a)
    (c : ℕ) (h : off = ![128 * c, 0]) : (uC off inb).view.read (Elt F) U = uch U c := by
  funext x
  exact congrArg U (emb_window inb c h x)

theorem read_oC (X : S100000x128.Idx → Elt F .f32) (U : S500000x128.Idx → Elt F .f32) (I : S500000.Idx → Elt F .i32)
    {off : Fin 2 → ℕ} (inb : ∀ a, off a + S128x128.size a ≤ S500000x128.size a)
    (c : ℕ) (h : off = ![128 * c, 0]) : (oC off inb).view.read (Elt F) (G X U I) = sch X U I c := by
  funext x
  have h0 : off 0 + 128 ≤ 500000 := inb 0
  have hx : (x 0).val < 128 := (x 0).isLt
  have h0' : 128 * c + 128 ≤ 500000 := by rw [h] at h0; exact h0
  rw [sch_eq X U I c x (by omega)]
  exact congrArg (G X U I) (emb_window inb c h x)

theorem set_oC {off : Fin 2 → ℕ} (inb : ∀ a, off a + S128x128.size a ≤ S500000x128.size a)
    (c : ℕ) (h : off = ![128 * c, 0]) : (oC off inb).view.set = blk c :=
  (View.set_slice_whole _ _).trans (set_window inb c h)

/-! ## What a tile works with -/

/-- The contents of the arguments, of the result before the launch, and of the arena. -/
structure Vals (F : FTy → Type) where
  X : S100000x128.Idx → Elt F .f32
  U : S500000x128.Idx → Elt F .f32
  I : S500000.Idx → Elt F .i32
  O : S500000x128.Idx → Elt F .f32
  A : S15872.Idx → Elt F .i32

variable (v : Vals F)

/-- A share of the table, of the features, and of the arena; -/
abbrev xP (q : PosShare TreeShare) : sProp 𝕄 := xV.view.loc (VT d L) ↦[(Finset.univ : Finset S100000x128.Idx)]{q} v.X
abbrev uP (q : PosShare TreeShare) : sProp 𝕄 := uV.view.loc (VT d L) ↦[(Finset.univ : Finset S500000x128.Idx)]{q} v.U
abbrev aP (q : PosShare TreeShare) : sProp 𝕄 := aV.view.loc (VT d L) ↦[(Finset.univ : Finset S15872.Idx)]{q} v.A
/-- a chunk of the result, at its first contents, and at its last. -/
abbrev oB (c : ℕ) (f : S500000x128.Idx → Elt F .f32) : sProp 𝕄 := oV.view.loc (VT d L) ↦[blk c]{fullShare} f
abbrev oI (c : ℕ) : sProp 𝕄 := oB d L c v.O
abbrev oD (c : ℕ) : sProp 𝕄 := oB d L c (G v.X v.U v.I)

/-- A slot with the shares it reads by. -/
structure Seat where
  s : Slot
  qx : PosShare TreeShare
  qu : PosShare TreeShare
  qa : PosShare TreeShare

variable (e : Seat)

/-- Nothing in flight, nothing known. -/
def Idle : sProp 𝕄 :=
  iprop(someVal d L e.s.rows ∗ someVal d L e.s.upb ∗ zero d L e.s.sg ∗ zero d L e.s.su ∗ zero d L e.s.so
    ∗ xP d L v e.qx ∗ uP d L v e.qu ∗ aP d L v e.qa)

/-- Chunk `c` on its way in. -/
def Load (c : ℕ) : sProp 𝕄 :=
  iprop(Fl d L e.s.sg 524288 iprop(holds d L e.s.rows (gch v.X v.I c) ∗ xP d L v e.qx ∗ aP d L v e.qa)
    ∗ Fl d L e.s.su 524288 iprop(holds d L e.s.upb (uch v.U c) ∗ uP d L v e.qu) ∗ zero d L e.s.so)

/-- Chunk `c` on its way out. -/
def Write (c : ℕ) : sProp 𝕄 :=
  iprop(Fl d L e.s.so 524288 iprop(holds d L e.s.rows (sch v.X v.U v.I c) ∗ oD d L v c)
    ∗ someVal d L e.s.upb ∗ zero d L e.s.sg ∗ zero d L e.s.su ∗ xP d L v e.qx ∗ uP d L v e.qu ∗ aP d L v e.qa)

/-! ## The rules -/

variable {d L v e}

/-- Load chunk `j` of the tile. -/
theorem wp_loadK {α : Type} {Q : α → sProp 𝕄} (hA : ArenaOK L v.I v.A) (hI : InRange v.I) {j : ℕ} (hj : j < nW L) {offA : Fin 1 → ℕ} {inbA : ∀ a, offA a + S128.size a ≤ S15872.size a} {offU : Fin 2 → ℕ} {inbU : ∀ a, offU a + S128x128.size a ≤ S500000x128.size a}
    (hoA : offA = ![128 * j]) (hoU : offU = ![128 * (base L + j), 0]) {k : PUnit → TP F L α} :
    (Idle d L v e : sProp 𝕄) ⊢ iprop((Load d L v e (base L + j) -∗ wpT (k ⟨⟩) Q) -∗ wpT (loadK L e.s offA inbA offU inbU k) Q) := by
  have hin : ∀ x, ((aW offA inbA).view.read (Elt F) v.A x).toNat < S100000x128.size gathers_S100000x128_S128x128.axis := by
    intro x
    rw [arena_at L hA inbA j hoA hj]
    exact hI _
  unfold Idle Load loadK
  iintro ⟨Hr, Hu, Hzg, Hzu, Hzo, HX, HU, HA⟩ Hk
  iapply (issue_gather (src := xW) (dst := e.s.rows) (offs := aW offA inbA) (fs := v.X) (fo := v.A) d L (N := 524288) rfl (fun _ => rfl) (by decide)
    (Finset.subset_univ _) (Finset.subset_univ _) hin) $$ [Hr HX HA Hzg]
  · isplitl [HX]; · iexact HX
    isplitl [Hr]; · iexact Hr
    isplitl [HA]; · iexact HA
    iexact Hzg
  rw [gather_eq L hA inbA j hoA hj hin]
  iintro HFg
  iapply (issue_in (src := uC offU inbU) (dst := e.s.upb) (fs := v.U) d L (N := 524288) rfl (by decide) (Finset.subset_univ _)) $$ [Hu HU Hzu]
  · isplitl [HU]; · iexact HU
    isplitl [Hu]; · iexact Hu
    iexact Hzu
  rw [read_uC v.U inbU _ hoU]
  iintro HFu
  iapply Hk
  isplitl [HFg]; · iexact HFg
  isplitl [HFu]; · iexact HFu
  iexact Hzo

/-- Issue on an idle slot. -/
theorem wp_issue_idle {α : Type} {Q : α → sProp 𝕄} (hA : ArenaOK L v.I v.A) (hI : InRange v.I) {j : ℕ} (hj : j < nW L) {c c' : BitVec 1} {offA : Fin 1 → ℕ} {inbA : c = 1#1 → ∀ a, offA a + S128.size a ≤ S15872.size a}
    {offU : Fin 2 → ℕ} {inbU : c = 1#1 → ∀ a, offU a + S128x128.size a ≤ S500000x128.size a} (hc : c = 1#1) (hc' : ¬ c' = 1#1)
    (hoA : offA = ![128 * j]) (hoU : offU = ![128 * (base L + j), 0]) {k : PUnit → TP F L α} :
    (Idle d L v e : sProp 𝕄) ⊢ iprop((Load d L v e (base L + j) -∗ wpT (k ⟨⟩) Q) -∗ wpT (issueK L e.s c c' offA inbA offU inbU k) Q) := by
  unfold issueK
  rw [dif_pos hc, dif_neg hc']
  exact wp_loadK hA hI hj hoA hoU

/-- Issue on a slot that wrote chunk `i`: that chunk is done. -/
theorem wp_issue_write {α : Type} {Q : α → sProp 𝕄} {O : CellTallies nD τ sig (HIx 1)} (hA : ArenaOK L v.I v.A) (hI : InRange v.I) {i j : ℕ} (hj : j < nW L) {c c' : BitVec 1} {offA : Fin 1 → ℕ} {inbA : c = 1#1 → ∀ a, offA a + S128.size a ≤ S15872.size a}
    {offU : Fin 2 → ℕ} {inbU : c = 1#1 → ∀ a, offU a + S128x128.size a ≤ S500000x128.size a} (hc : c = 1#1) (hc' : c' = 1#1)
    (hoA : offA = ![128 * j]) (hoU : offU = ![128 * (base L + j), 0]) {k : PUnit → TP F L α} :
    iprop(Write d L v e i ∗ Ow d L O)
      ⊢ iprop((iprop(Load d L v e (base L + j) ∗ oD d L v i ∗ Ow d L O) -∗ wpT (k ⟨⟩) Q) -∗ wpT (issueK L e.s c c' offA inbA offU inbU k) Q) := by
  unfold issueK
  rw [dif_pos hc, dif_pos hc']
  unfold Write
  iintro ⟨⟨HF, Hu, Hzg, Hzu, HX, HU, HA⟩, HO⟩ Hk
  iapply (wait_fl d L (N := 524288) (dstw := oW) rfl) $$ [HF HO]
  · isplitl [HF]; · iexact HF
    iexact HO
  iintro ⟨⟨Hr, Hd⟩, Hzo, HO⟩
  iapply (wp_loadK (e := e) hA hI hj hoA hoU) $$ [Hr Hu Hzg Hzu Hzo HX HU HA]
  · unfold Idle
    isplitl [Hr]; · iapply (someVal_of_holds d L e.s.rows _); iexact Hr
    isplitl [Hu]; · iexact Hu
    isplitl [Hzg]; · iexact Hzg
    isplitl [Hzu]; · iexact Hzu
    isplitl [Hzo]; · iexact Hzo
    isplitl [HX]; · iexact HX
    isplitl [HU]; · iexact HU
    iexact HA
  iintro HL
  iapply Hk
  isplitl [HL]; · iexact HL
  isplitl [Hd]; · iexact Hd
  iexact HO

/-- Issue past the tile's last chunk: nothing. -/
theorem issueK_skip {α : Type} {s : Slot} {c c' : BitVec 1} {offA : Fin 1 → ℕ} {inbA : c = 1#1 → ∀ a, offA a + S128.size a ≤ S15872.size a} {offU : Fin 2 → ℕ} {inbU : c = 1#1 → ∀ a, offU a + S128x128.size a ≤ S500000x128.size a} (hc : ¬ c = 1#1)
    {k : PUnit → TP F L α} : issueK L s c c' offA inbA offU inbU k = k ⟨⟩ := by
  unfold issueK; rw [dif_neg hc]

/-- Compute a chunk that is loaded: its write starts. -/
theorem wp_computeK {α : Type} {Q : α → sProp 𝕄} {O : CellTallies nD τ sig (HIx 1)} {i : ℕ} {c : BitVec 1} {lp : Scf.Loop 32} {ok : c = 1#1 → lp.OK} {body : c = 1#1 → Fin lp.trips → Unit → TP F L Unit}
    {offO : Fin 2 → ℕ} {inbO : c = 1#1 → ∀ a, offO a + S128x128.size a ≤ S500000x128.size a} (hc : c = 1#1) (hlp : lp.trips = 128) (hb : ∀ h, RowOK d L e.s.rows e.s.upb (body h))
    (hoO : offO = ![128 * i, 0]) {k : PUnit → TP F L α} :
    iprop(Load d L v e i ∗ oI d L v i ∗ Ow d L O)
      ⊢ iprop((iprop(Write d L v e i ∗ Ow d L O) -∗ wpT (k ⟨⟩) Q) -∗ wpT (computeK L e.s c lp ok body offO inbO k) Q) := by
  unfold computeK
  rw [dif_pos hc]
  unfold Load Write
  iintro ⟨⟨HFg, HFu, Hzo⟩, Ho, HO⟩ Hk
  iapply (wait_fl d L (N := 524288) (dstw := e.s.rows) rfl) $$ [HFg HO]
  · isplitl [HFg]; · iexact HFg
    iexact HO
  iintro ⟨⟨Hr, HX, HA⟩, Hzg, HO⟩
  iapply (wait_fl d L (N := 524288) (dstw := e.s.upb) rfl) $$ [HFu HO]
  · isplitl [HFu]; · iexact HFu
    iexact HO
  iintro ⟨⟨Hu, HU⟩, Hzu, HO⟩
  iapply (wp_rows d L e.s.rows e.s.upb lp (ok hc) (body hc) (hb hc)) $$ [Hr Hu]
  · isplitl [Hr]; · iexact Hr
    iexact Hu
  have hs : summed lp.trips 0 (gch v.X v.I i) (uch v.U i) = sch v.X v.U v.I i := by
    funext x
    exact summed_apply _ _ _ x (by rw [hlp]; exact (x 0).isLt)
  rw [hs]
  iintro ⟨Hr, Hu⟩
  iapply (issue_out (src := e.s.rows) (dst := oC offO (inbO hc)) (G := G v.X v.U v.I) d L (N := 524288) rfl (by decide)
    (read_oC v.X v.U v.I (inbO hc) i hoO)) $$ [Hr Ho Hzo]
  · isplitl [Hr]; · iexact Hr
    isplitl [Ho]
    · rw [set_oC (inbO hc) i hoO]; iexact Ho
    iexact Hzo
  rw [set_oC (inbO hc) i hoO]
  iintro HF
  iapply Hk
  isplitr [HO]
  · isplitl [HF]; · iexact HF
    isplitl [Hu]; · iapply (someVal_of_holds d L e.s.upb _); iexact Hu
    isplitl [Hzg]; · iexact Hzg
    isplitl [Hzu]; · iexact Hzu
    isplitl [HX]; · iexact HX
    isplitl [HU]; · iexact HU
    iexact HA
  iexact HO

theorem computeK_skip {α : Type} {s : Slot} {c : BitVec 1} {lp : Scf.Loop 32} {ok : c = 1#1 → lp.OK} {body : c = 1#1 → Fin lp.trips → Unit → TP F L Unit}
    {offO : Fin 2 → ℕ} {inbO : c = 1#1 → ∀ a, offO a + S128x128.size a ≤ S500000x128.size a} (hc : ¬ c = 1#1) {k : PUnit → TP F L α} : computeK L s c lp ok body offO inbO k = k ⟨⟩ := by
  unfold computeK; rw [dif_neg hc]

end Cert.Proof.Gadd

end
-- ==== Proof.Trip.lean ====
/-
  The pipeline chunk by chunk: the state of a slot before and after a chunk is issued at it, a trip of the outer loop,
  and the whole loop.
-/
module

public import proofs.«01_k».proof.Proof.Steps

@[expose] public section

noncomputable section

namespace Cert.Proof.Gadd

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

local notation "wpT" => wp frame (wpE (defs₀ (F := F)) 𝒱₀ (VT d L) none) Set.univ

variable (v : Vals F)

/-! ## The states, by chunk number -/

/-- Before chunk `j` (at least the fourth) is issued at a slot, the slot last wrote this chunk. -/
def lst (n j : ℕ) : ℕ := if j - 3 < n then j - 3 else if j - 6 < n then j - 6 else j - 9

/-- How many of the tile's chunks are known to be written before chunk `j` is issued. -/
def dn (n j : ℕ) : ℕ := min (j - 3) (n - 3)

/-- A slot before chunk `j` is issued at it, -/
def Pre (e : Seat) (j : ℕ) : sProp 𝕄 := if j < 3 then Idle d L v e else Write d L v e (base L + lst (nW L) j)
/-- and after. -/
def Post (e : Seat) (j : ℕ) : sProp 𝕄 := if j < nW L then Load d L v e (base L + j) else Pre d L v e (j + 3)

/-- The tile's first `k` chunks, done. -/
def Done (k : ℕ) : sProp 𝕄 := bigSep (Finset.range k) fun j => oD d L v (base L + j)
/-- The tile's chunks from `k` on, as they were. -/
def Init (k : ℕ) : sProp 𝕄 := bigSep (Finset.Ico k (nW L)) fun j => oI d L v (base L + j)

variable {d L v}

theorem Done_succ (k : ℕ) : (Done d L v (k + 1) : sProp 𝕄) = iprop(oD d L v (base L + k) ∗ Done d L v k) :=
  by
  unfold Done
  rw [Finset.range_add_one]
  exact SparseCore.bigSep_insert' Finset.notMem_range_self

theorem Init_cons (k : ℕ) (h : k < nW L) : (Init d L v k : sProp 𝕄) = iprop(oI d L v (base L + k) ∗ Init d L v (k + 1)) := by
  unfold Init
  rw [← Finset.insert_Ico_succ_left_eq_Ico h]
  exact SparseCore.bigSep_insert' (by simp)

/-- Chunk `j`'s turn to be issued. -/
theorem wp_issueStep {α : Type} {Q : α → sProp 𝕄} {O : CellTallies nD τ sig (HIx 1)} (hA : ArenaOK L v.I v.A) (hI : InRange v.I) {e : Seat}
    {j : ℕ} (hj : j ≤ 126) {c c' : BitVec 1} (hc : c = 1#1 ↔ j < nW L) (hc' : c' = 1#1 ↔ 3 ≤ j) {s : Slot} (hs : e.s = s)
    {offA : Fin 1 → ℕ} {inbA : c = 1#1 → ∀ a, offA a + S128.size a ≤ S15872.size a}
    {offU : Fin 2 → ℕ} {inbU : c = 1#1 → ∀ a, offU a + S128x128.size a ≤ S500000x128.size a}
    (hoA : offA = ![128 * j]) (hoU : offU = ![128 * (base L + j), 0]) {k : PUnit → TP F L α} :
    iprop(Pre d L v e j ∗ Done d L v (dn (nW L) j) ∗ Ow d L O)
      ⊢ iprop((iprop(Post d L v e j ∗ Done d L v (dn (nW L) (j + 1)) ∗ Ow d L O) -∗ wpT (k ⟨⟩) Q)
          -∗ wpT (issueK L s c c' offA inbA offU inbU k) Q) := by
  subst hs
  have hn := nW_bounds L
  rcases Classical.em (j < nW L) with h | h
  · rw [show (Post d L v e j : sProp 𝕄) = Load d L v e (base L + j) from if_pos h]
    rcases Classical.em (j < 3) with h3 | h3
    · rw [show (Pre d L v e j : sProp 𝕄) = Idle d L v e from if_pos h3,
        show dn (nW L) (j + 1) = dn (nW L) j by unfold dn; omega]
      iintro ⟨HP, HD, HO⟩ Hk
      iapply (wp_issue_idle (e := e) hA hI h (hc.mpr h) (fun hh => by have := hc'.mp hh; omega) hoA hoU) $$ [HP]
      · iexact HP
      iintro HL
      iapply Hk
      isplitl [HL]; · iexact HL
      isplitl [HD]; · iexact HD
      iexact HO
    · rw [show (Pre d L v e j : sProp 𝕄) = Write d L v e (base L + lst (nW L) j) from if_neg h3,
        show dn (nW L) (j + 1) = dn (nW L) j + 1 by unfold dn; omega, Done_succ,
        show lst (nW L) j = dn (nW L) j by unfold lst dn; rw [if_pos (by omega)]; omega]
      iintro ⟨HP, HD, HO⟩ Hk
      iapply (wp_issue_write (e := e) hA hI h (hc.mpr h) (hc'.mpr (by omega)) hoA hoU) $$ [HP HO]
      · isplitl [HP]; · iexact HP
        iexact HO
      iintro ⟨HL, Hd, HO⟩
      iapply Hk
      isplitl [HL]; · iexact HL
      isplitr [HO]
      · isplitl [Hd]; · iexact Hd
        iexact HD
      iexact HO
  · rw [issueK_skip (fun hh => h (hc.mp hh)), show (Post d L v e j : sProp 𝕄) = Pre d L v e (j + 3) from if_neg h,
      show (Pre d L v e (j + 3) : sProp 𝕄) = Write d L v e (base L + lst (nW L) (j + 3)) from if_neg (by omega),
      show (Pre d L v e j : sProp 𝕄) = Write d L v e (base L + lst (nW L) j) from if_neg (by omega),
      show dn (nW L) (j + 1) = dn (nW L) j by unfold dn; omega,
      show lst (nW L) (j + 3) = lst (nW L) j by
        unfold lst
        rw [if_neg (show ¬ j + 3 - 3 < nW L by omega)]
        rcases Classical.em (j - 3 < nW L) with h' | h'
        · rw [if_pos h', if_pos (by omega)]; omega
        · rw [if_neg h', if_neg (by omega), if_pos (by omega)]; omega]
    iintro H Hk
    iapply Hk
    iexact H

/-- Chunk `j`'s turn to be computed. -/
theorem wp_computeStep {α : Type} {Q : α → sProp 𝕄} {O : CellTallies nD τ sig (HIx 1)} {e : Seat}
    {j : ℕ} {c : BitVec 1} (hc : c = 1#1 ↔ j < nW L) {s : Slot} (hs : e.s = s)
    {lp : Scf.Loop 32} {ok : c = 1#1 → lp.OK} {body : c = 1#1 → Fin lp.trips → Unit → TP F L Unit}
    {offO : Fin 2 → ℕ} {inbO : c = 1#1 → ∀ a, offO a + S128x128.size a ≤ S500000x128.size a}
    (hlp : lp.trips = 128) (hb : ∀ h, RowOK d L s.rows s.upb (body h))
    (hoO : offO = ![128 * (base L + j), 0]) {k : PUnit → TP F L α} :
    iprop(Post d L v e j ∗ Init d L v j ∗ Ow d L O)
      ⊢ iprop((iprop(Pre d L v e (j + 3) ∗ Init d L v (j + 1) ∗ Ow d L O) -∗ wpT (k ⟨⟩) Q)
          -∗ wpT (computeK L s c lp ok body offO inbO k) Q) := by
  subst hs
  rcases Classical.em (j < nW L) with h | h
  · rw [show (Post d L v e j : sProp 𝕄) = Load d L v e (base L + j) from if_pos h, Init_cons j h,
      show (Pre d L v e (j + 3) : sProp 𝕄) = Write d L v e (base L + lst (nW L) (j + 3)) from if_neg (by omega),
      show lst (nW L) (j + 3) = j by unfold lst; rw [if_pos (by omega)]; omega]
    iintro ⟨HP, ⟨Ho, HI⟩, HO⟩ Hk
    iapply (wp_computeK (e := e) (hc.mpr h) hlp hb hoO) $$ [HP Ho HO]
    · isplitl [HP]; · iexact HP
      isplitl [Ho]; · iexact Ho
      iexact HO
    iintro ⟨HW, HO⟩
    iapply Hk
    isplitl [HW]; · iexact HW
    isplitl [HI]; · iexact HI
    iexact HO
  · rw [computeK_skip (fun hh => h (hc.mp hh)), show (Post d L v e j : sProp 𝕄) = Pre d L v e (j + 3) from if_neg h,
      show (Init d L v (j + 1) : sProp 𝕄) = Init d L v j by
        unfold Init; rw [Finset.Ico_eq_empty (by omega), Finset.Ico_eq_empty (by omega)]]
    iintro H Hk
    iapply Hk
    iexact H

/-! ## The outer loop -/

/-- The three seats of a tile that reads the table by `qx` and the features by `qu`. -/
abbrev seat0 (qx qu : PosShare TreeShare) : Seat := ⟨slot0, Transfers.shareTokN qx 0, Transfers.shareTokN qu 0, Transfers.shareTokN fullShare 0⟩
abbrev seat1 (qx qu : PosShare TreeShare) : Seat := ⟨slot1, Transfers.shareTokN qx 1, Transfers.shareTokN qu 1, Transfers.shareTokN fullShare 1⟩
abbrev seat2 (qx qu : PosShare TreeShare) : Seat := ⟨slot2, Transfers.shareTokN qx 2, Transfers.shareTokN qu 2, Transfers.shareTokN fullShare 2⟩

variable (d L v) in
/-- What stands at the head of trip `t`: chunk `3 t` issued, the two other slots waiting their turn, the chunks before
    written or being written. -/
def Head (qx qu : PosShare TreeShare) (O : CellTallies nD τ sig (HIx 1)) (t : ℕ) : sProp 𝕄 :=
  iprop(Post d L v (seat0 qx qu) (3 * t) ∗ Pre d L v (seat1 qx qu) (3 * t + 1) ∗ Pre d L v (seat2 qx qu) (3 * t + 2)
    ∗ Done d L v (dn (nW L) (3 * t + 1)) ∗ Init d L v (3 * t) ∗ Ow d L O)

theorem off_base (L : grid0.Coords) : 31232 * (L 1).val + 15616 * (L 0).val + 128 * (min (2 * (L 1).val + (L 0).val) 2) = 128 * base L := by
  unfold base baseOf wid; omega

/-- A trip takes its head to the next. -/
theorem wp_trip {qx qu : PosShare TreeShare} {O : CellTallies nD τ sig (HIx 1)} (hA : ArenaOK L v.I v.A) (hI : InRange v.I)
    (t : Fin k0_t1_loop.trips) (a : BitVec 32) :
    (Head d L v qx qu O t.val : sProp 𝕄) ⊢ wpT (body1 L t a) (fun _ => Head d L v qx qu O (t.val + 1)) := by
  have ht : t.val < 42 := Nat.lt_of_lt_of_eq t.isLt trips_t1
  have hb := off_base L
  rw [body1_eq]
  unfold Head
  iintro ⟨H0, H1, H2, HD, HI, HO⟩
  iapply (wp_issueStep (e := seat1 qx qu) (j := 3 * t.val + 1) hA hI (by omega) (cond3_iff L t) (again0_iff t) rfl
    (by rw [k0_off4_eq]; congr 1; omega) (by rw [k0_off5_eq]; congr 1; omega)) $$ [H1 HD HO]
  · isplitl [H1]; · iexact H1
    isplitl [HD]; · iexact HD
    iexact HO
  iintro ⟨H1, HD, HO⟩
  iapply (wp_computeStep (e := seat0 qx qu) (j := 3 * t.val) (cond5_iff L t) rfl trips_t2
    (fun h => rows_t2 d L _ _ _ _ _ _ _ _ _ _ _ _ _ _ _ _ _ _ _ _ _ _ _ _ _ _ _ _ _ _ _ _ _ _ _ _ _ t h)
    (by rw [k0_off14_eq]; congr 1; omega)) $$ [H0 HI HO]
  · isplitl [H0]; · iexact H0
    isplitl [HI]; · iexact HI
    iexact HO
  iintro ⟨H0, HI, HO⟩
  iapply (wp_issueStep (e := seat2 qx qu) (j := 3 * t.val + 2) hA hI (by omega) (cond6_iff L t) (again1_iff t) rfl
    (by rw [k0_off15_eq]; congr 1; omega) (by rw [k0_off16_eq]; congr 1; omega)) $$ [H2 HD HO]
  · isplitl [H2]; · iexact H2
    isplitl [HD]; · iexact HD
    iexact HO
  iintro ⟨H2, HD, HO⟩
  iapply (wp_computeStep (e := seat1 qx qu) (j := 3 * t.val + 1) (cond8_iff L t) rfl trips_t3
    (fun h => rows_t3 d L _ _ _ _ _ _ _ _ _ _ _ _ _ _ _ _ _ _ _ _ _ _ _ _ _ _ _ _ _ _ _ _ _ _ _ _ _ t h)
    (by rw [k0_off25_eq]; congr 1; omega)) $$ [H1 HI HO]
  · isplitl [H1]; · iexact H1
    isplitl [HI]; · iexact HI
    iexact HO
  iintro ⟨H1, HI, HO⟩
  iapply (wp_issueStep (e := seat0 qx qu) (j := 3 * t.val + 3) hA hI (by omega) (cond9_iff L t) (again2_iff t) rfl
    (by rw [k0_off26_eq]; congr 1; omega) (by rw [k0_off27_eq]; congr 1; omega)) $$ [H0 HD HO]
  · isplitl [H0]; · iexact H0
    isplitl [HD]; · iexact HD
    iexact HO
  iintro ⟨H0, HD, HO⟩
  iapply (wp_computeStep (e := seat2 qx qu) (j := 3 * t.val + 2) (cond11_iff L t) rfl trips_t4
    (fun h => rows_t4 d L _ _ _ _ _ _ _ _ _ _ _ _ _ _ _ _ _ _ _ _ _ _ _ _ _ _ _ _ _ _ _ _ _ _ _ _ _ t h)
    (by rw [k0_off36_eq]; congr 1; omega)) $$ [H2 HI HO]
  · isplitl [H2]; · iexact H2
    isplitl [HI]; · iexact HI
    iexact HO
  iintro ⟨H2, HI, HO⟩
  iapply (wpT_pure d L)
  rw [show 3 * (t.val + 1) = 3 * t.val + 3 from rfl]
  isplitl [H0]; · iexact H0
  isplitl [H1]; · iexact H1
  isplitl [H2]; · iexact H2
  isplitl [HD]; · iexact HD
  isplitl [HI]; · iexact HI
  iexact HO

/-- The whole loop: every chunk written or being written. -/
theorem wp_loop {qx qu : PosShare TreeShare} {O : CellTallies nD τ sig (HIx 1)} (hA : ArenaOK L v.I v.A) (hI : InRange v.I)
    {α : Type} {Q : α → sProp 𝕄} {k : BitVec 32 → TP F L α} :
    (Head d L v qx qu O 0 : sProp 𝕄)
      ⊢ iprop((∀ a, iprop(Write d L v (seat0 qx qu) (base L + 120) ∗ Write d L v (seat1 qx qu) (base L + 121)
            ∗ Write d L v (seat2 qx qu) (base L + (if nW L = 123 then 122 else 119)) ∗ Done d L v (nW L - 3) ∗ Ow d L O) -∗ wpT (k a) Q)
          -∗ wpT (Scf.Loop.for k0_t1_loop k0_t1_ok 0#32 (body1 L) >>= k) Q) := by
  have h := Scf.wp_for_bind (wpE := wpE (defs₀ (F := F)) 𝒱₀ (VT d L) none) frame Set.univ _ _ _ k0_t1_ok 0#32 (body1 (F := F) L)
    (fun n _ => (Head d L v qx qu O n : sProp 𝕄)) (fun t a => wp_trip hA hI t a) (kk := k) (Q := Q)
  refine h.trans ?_
  have hn := nW_bounds L
  iintro H Hk
  iapply H
  iintro %a HH
  iapply Hk
  have e : (Head d L v qx qu O k0_t1_loop.trips : sProp 𝕄)
      ⊢ iprop(Write d L v (seat0 qx qu) (base L + 120) ∗ Write d L v (seat1 qx qu) (base L + 121)
            ∗ Write d L v (seat2 qx qu) (base L + (if nW L = 123 then 122 else 119)) ∗ Done d L v (nW L - 3) ∗ Ow d L O) := by
    rw [trips_t1]
    unfold Head Post Pre
    rw [if_neg (show ¬ 3 * 42 < nW L by omega), if_neg (by omega), if_neg (by omega), if_neg (by omega),
      show lst (nW L) (3 * 42 + 3) = 120 by
        unfold lst; rw [if_neg (by omega), if_neg (by omega)],
      show lst (nW L) (3 * 42 + 1) = 121 by
        unfold lst; rw [if_neg (by omega), if_pos (by omega)],
      show lst (nW L) (3 * 42 + 2) = (if nW L = 123 then 122 else 119) by
        unfold lst; rw [if_neg (by omega)]
        split <;> split <;> omega,
      show dn (nW L) (3 * 42 + 1) = nW L - 3 by unfold dn; omega]
    iintro ⟨H0, H1, H2, HD, -, HO⟩
    isplitl [H0]; · iexact H0
    isplitl [H1]; · iexact H1
    isplitl [H2]; · iexact H2
    isplitl [HD]; · iexact HD
    iexact HO
  iapply e
  iexact HH

end Cert.Proof.Gadd

end
-- ==== Proof.Text.lean ====
/-
  The text of a tile around its loop: the row numbers fetched into the arena, the first chunk issued, the loop, the last
  three writes waited for; and, on tile 0, the 32 rows left at the end.
-/
module

public import proofs.«01_k».proof.Proof.Trip

@[expose] public section

noncomputable section

namespace Cert.Proof.Gadd

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

local notation "wpT" => wp frame (wpE (defs₀ (F := F)) 𝒱₀ (VT d L) none) Set.univ

/-! ## The windows -/

/-- The row numbers of a tile's first 122 chunks, and where they go; -/
abbrev i1 : Memref sig .scVector .hbm S15616 .i32 :=
  iV.slice (Rect.unit (s := S500000) (k0_off1 L) S15616.size (k0_off1_inb L)) (fun _ => rfl)
abbrev a1 : Memref sig .scVector .vmem S15616 .i32 :=
  aV.slice (Rect.unit (s := S15872) ![0] S15616.size inb_S15872_S15616_0) (fun _ => rfl)
/-- of its 123rd; -/
abbrev i2 (h : k0_cond1 L = 1#1) : Memref sig .scVector .hbm S128 .i32 :=
  iV.slice (Rect.unit (s := S500000) (k0_off2 L) S128.size (k0_off2_inb L h)) (fun _ => rfl)
abbrev a2 : Memref sig .scVector .vmem S128 .i32 :=
  aV.slice (Rect.unit (s := S15872) ![15616] S128.size inb_S15872_S128_15616) (fun _ => rfl)
/-- of the rows left at the end. -/
abbrev i3 : Memref sig .scVector .hbm S32 .i32 :=
  iV.slice (Rect.unit (s := S500000) ![499968] S32.size inb_S500000_S32_499968) (fun _ => rfl)
abbrev a3 : Memref sig .scVector .vmem S32 .i32 :=
  aV.slice (Rect.unit (s := S15872) ![15744] S32.size inb_S15872_S32_15744) (fun _ => rfl)
/-- The last 32 rows of the features and of the result, and the first 32 of the two buffers of slot 0. -/
abbrev uT : Memref sig .scVector .hbm S32x128 .f32 :=
  uV.slice (Rect.unit (s := S500000x128) ![499968, 0] S32x128.size inb_S500000x128_S32x128_499968_0) (fun _ => rfl)
abbrev oT : Memref sig .scVector .hbm S32x128 .f32 :=
  oV.slice (Rect.unit (s := S500000x128) ![499968, 0] S32x128.size inb_S500000x128_S32x128_499968_0) (fun _ => rfl)
abbrev rT : Memref sig .scVector .vmem S32x128 .f32 :=
  (Memref.whole cc0_scratch1).slice (Rect.unit (s := S128x128) ![0, 0] S32x128.size inb_S128x128_S32x128_0_0) (fun _ => rfl)
abbrev bT : Memref sig .scVector .vmem S32x128 .f32 :=
  (Memref.whole cc0_scratch4).slice (Rect.unit (s := S128x128) ![0, 0] S32x128.size inb_S128x128_S32x128_0_0) (fun _ => rfl)

/-! ## The text -/

/-- The row numbers fetched. -/
def fetchK {α : Type} (k : PUnit → TP F L α) : TP F L α :=
  Prog.lift (.enqueueDma (i1 L) (.here a1) (.dma cc0_scoped0.sem) (View.wordExact_bits rfl) (View.wordExact_bits rfl) ⟨Or.inl rfl, trivial⟩) >>= fun _ =>
  Prog.lift (.waitDma2 cc0_scoped0.sem (i1 L) a1 (View.wordExact_bits rfl) (View.wordExact_bits rfl)) >>= fun _ =>
  if h : k0_cond1 L = 1#1 then
    Prog.lift (.enqueueDma (i2 L h) (.here a2) (.dma cc0_scoped1.sem) (View.wordExact_bits rfl) (View.wordExact_bits rfl) ⟨Or.inl rfl, trivial⟩) >>= fun _ =>
    Prog.lift (.waitDma2 cc0_scoped1.sem (i2 L h) a2 (View.wordExact_bits rfl) (View.wordExact_bits rfl)) >>= k
  else k ⟨⟩

/-- A write waited for. -/
def drainK (s : Slot) {α : Type} (k : PUnit → TP F L α) : TP F L α :=
  Prog.lift (.waitDma2 s.so s.rows oW s.hrows.wordExact (View.wordExact_bits rfl)) >>= k

abbrev part10 : TP F L (BitVec 32) := k0_part10 L xV (Memref.isWhole_whole _) uV (Memref.isWhole_whole _) iV (Memref.isWhole_whole _) oV (Memref.isWhole_whole _) aV (Memref.isWhole_whole _)
    (Memref.whole cc0_scratch1) (Memref.isWhole_whole _) (Memref.whole cc0_scratch2) (Memref.isWhole_whole _) (Memref.whole cc0_scratch3) (Memref.isWhole_whole _)
    (Memref.whole cc0_scratch4) (Memref.isWhole_whole _) (Memref.whole cc0_scratch5) (Memref.isWhole_whole _) (Memref.whole cc0_scratch6) (Memref.isWhole_whole _)
    cc0_scratch7 cc0_scratch8 cc0_scratch9 cc0_scratch10 cc0_scratch11 cc0_scratch12 cc0_scratch13 cc0_scratch14 cc0_scratch15 cc0_scratch16
    cc0_scoped0 cc0_scoped1 cc0_scoped2 cc0_scoped3 cc0_scoped4
abbrev part9 : TP F L PUnit := k0_part9 L xV (Memref.isWhole_whole _) uV (Memref.isWhole_whole _) iV (Memref.isWhole_whole _) oV (Memref.isWhole_whole _) aV (Memref.isWhole_whole _)
    (Memref.whole cc0_scratch1) (Memref.isWhole_whole _) (Memref.whole cc0_scratch2) (Memref.isWhole_whole _) (Memref.whole cc0_scratch3) (Memref.isWhole_whole _)
    (Memref.whole cc0_scratch4) (Memref.isWhole_whole _) (Memref.whole cc0_scratch5) (Memref.isWhole_whole _) (Memref.whole cc0_scratch6) (Memref.isWhole_whole _)
    cc0_scratch7 cc0_scratch8 cc0_scratch9 cc0_scratch10 cc0_scratch11 cc0_scratch12 cc0_scratch13 cc0_scratch14 cc0_scratch15 cc0_scratch16
    cc0_scoped0 cc0_scoped1 cc0_scoped2 cc0_scoped3 cc0_scoped4
abbrev body5 (h : k0_cond12 L = 1#1) : Fin k0_t5_loop.trips → Unit → TP F L Unit := k0_t5_body L xV (Memref.isWhole_whole _) uV (Memref.isWhole_whole _) iV (Memref.isWhole_whole _) oV (Memref.isWhole_whole _) aV (Memref.isWhole_whole _)
    (Memref.whole cc0_scratch1) (Memref.isWhole_whole _) (Memref.whole cc0_scratch2) (Memref.isWhole_whole _) (Memref.whole cc0_scratch3) (Memref.isWhole_whole _)
    (Memref.whole cc0_scratch4) (Memref.isWhole_whole _) (Memref.whole cc0_scratch5) (Memref.isWhole_whole _) (Memref.whole cc0_scratch6) (Memref.isWhole_whole _)
    cc0_scratch7 cc0_scratch8 cc0_scratch9 cc0_scratch10 cc0_scratch11 cc0_scratch12 cc0_scratch13 cc0_scratch14 cc0_scratch15 cc0_scratch16
    cc0_scoped0 cc0_scoped1 cc0_scoped2 cc0_scoped3 cc0_scoped4 h
abbrev tile : TP F L PUnit := cc0__sc_kernel L xV (Memref.isWhole_whole _) uV (Memref.isWhole_whole _) iV (Memref.isWhole_whole _) oV (Memref.isWhole_whole _) aV (Memref.isWhole_whole _)
    (Memref.whole cc0_scratch1) (Memref.isWhole_whole _) (Memref.whole cc0_scratch2) (Memref.isWhole_whole _) (Memref.whole cc0_scratch3) (Memref.isWhole_whole _)
    (Memref.whole cc0_scratch4) (Memref.isWhole_whole _) (Memref.whole cc0_scratch5) (Memref.isWhole_whole _) (Memref.whole cc0_scratch6) (Memref.isWhole_whole _)
    cc0_scratch7 cc0_scratch8 cc0_scratch9 cc0_scratch10 cc0_scratch11 cc0_scratch12 cc0_scratch13 cc0_scratch14 cc0_scratch15 cc0_scratch16
    cc0_scoped0 cc0_scoped1 cc0_scoped2 cc0_scoped3 cc0_scoped4

theorem part10_eq : part10 (F := F) L =
    fetchK L fun _ =>
    issueK L slot0 (k0_cond2 L) 0#1 ![0] (fun _ => inb_S15872_S128_0) (k0_off3 L) (fun h => k0_off3_inb L h) fun _ =>
    Scf.Loop.for k0_t1_loop k0_t1_ok 0#32 (body1 L) >>= fun _ =>
    drainK L slot0 fun _ => pure (Scalar.addi (Scalar.muli (BitVec.ofNat 32 (L 1).val) 2#32) (BitVec.ofNat 32 (L 0).val)) := by
  rfl

/-- The last rows, on tile 0: their row numbers fetched, their gather made, the copy of their features started; -/
def tailLoadK {α : Type} (k : PUnit → TP F L α) : TP F L α :=
  Prog.lift (.enqueueDma i3 (.here a3) (.dma cc0_scoped2.sem) (View.wordExact_bits rfl) (View.wordExact_bits rfl) ⟨Or.inl rfl, trivial⟩) >>= fun _ =>
  Prog.lift (.waitDma2 cc0_scoped2.sem i3 a3 (View.wordExact_bits rfl) (View.wordExact_bits rfl)) >>= fun _ =>
  SparseCore.enqueueIndirectGather rfl xW rT gathers_S100000x128_S32x128 a3 rfl cc0_scratch16.sem (View.wordExact_bits rfl) rfl (Or.inl rfl) >>= fun _ =>
  SparseCore.waitIndirectGather cc0_scratch16.sem xW rT (View.wordExact_bits rfl) (View.wordExact_bits rfl) >>= fun _ =>
  Prog.lift (.enqueueDma uT (.here bT) (.dma cc0_scoped3.sem) (View.wordExact_bits rfl) (View.wordExact_bits rfl) ⟨Or.inl rfl, trivial⟩) >>= k

/-- that copy waited for, the rows summed and written. -/
def tailStoreK (h : k0_cond12 L = 1#1) {α : Type} (k : PUnit → TP F L α) : TP F L α :=
  Prog.lift (.waitDma2 cc0_scoped3.sem uT bT (View.wordExact_bits rfl) (View.wordExact_bits rfl)) >>= fun _ =>
  Scf.Loop.for k0_t5_loop (k0_t5_ok L h) ⟨⟩ (body5 L h) >>= fun _ =>
  Prog.lift (.enqueueDma rT (.here oT) (.dma cc0_scoped4.sem) (View.wordExact_bits rfl) (View.wordExact_bits rfl) ⟨Or.inl rfl, trivial⟩) >>= fun _ =>
  Prog.lift (.waitDma2 cc0_scoped4.sem rT oT (View.wordExact_bits rfl) (View.wordExact_bits rfl)) >>= k

theorem part9_eq : part9 (F := F) L = tailLoadK L fun _ => pure ⟨⟩ := by
  rfl

/-- What a tile does after its loop's first write is waited for. -/
def restK : TP F L PUnit :=
  drainK L slot1 fun _ =>
  drainK L slot2 fun _ =>
  if h : k0_cond12 L = 1#1 then part9 L >>= fun _ => tailStoreK L h fun _ => pure ⟨⟩ else pure ⟨⟩

theorem tile_eq : tile (F := F) L = part10 L >>= fun _ => restK L := by
  rfl

end Cert.Proof.Gadd

end
-- ==== Proof.Arena.lean ====
/-
  The arena: a part of a buffer lent to a copy and joined again, and the arena's fetch.
-/
module

public import proofs.«01_k».proof.Proof.Text

@[expose] public section

noncomputable section

namespace Cert.Proof.Gadd

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

local notation "wpT" => wp frame (wpE (defs₀ (F := F)) 𝒱₀ (VT d L) none) Set.univ

/-! ## A part of a buffer -/

/-- A part of a buffer set apart. -/
theorem carve {sp : Space} {s : Shape} {e : EltTy} (w : Memref sig .scVector sp s e) (f : Buf (Elt F) (w.view.loc (VT d L))) :
    (w.view.loc (VT d L) ↦[Finset.univ]{fullShare} f : sProp 𝕄)
      ⊢ iprop(someVal d L w ∗ (w.view.loc (VT d L) ↦[Finset.univ \ w.view.set]{fullShare} f)) := by
  unfold someVal
  iintro H
  ihave H' := (pointsTo_split_subset (q := fullShare) (f := f) (Finset.subset_univ w.view.set)).1 $$ H
  icases H' with ⟨H, Hr⟩
  isplitl [H]
  · iexists f; iexact H
  · iexact Hr

/-- The part joined again, with what it holds by now. -/
theorem rejoin {sp : Space} {s : Shape} {e : EltTy} (w : Memref sig .scVector sp s e) (D : s.Idx → Elt F e) (f : Buf (Elt F) (w.view.loc (VT d L))) :
    (iprop(holds d L w D ∗ (w.view.loc (VT d L) ↦[Finset.univ \ w.view.set]{fullShare} f)) : sProp 𝕄)
      ⊢ iprop(∃ f' : Buf (Elt F) (w.view.loc (VT d L)), ⌜w.view.read (Elt F) f' = D ∧ ∀ i, i ∉ w.view.set → f' i = f i⌝
          ∗ (w.view.loc (VT d L) ↦[Finset.univ]{fullShare} f')) := by
  unfold holds
  iintro ⟨⟨%g, %hg, H⟩, Hr⟩
  have hu : w.view.set ∪ (Finset.univ \ w.view.set) = Finset.univ := by simp
  iexists ((Finset.univ \ w.view.set).piecewise f g)
  isplitr
  · ipureintro
    refine ⟨?_, fun i hi => Finset.piecewise_eq_of_mem _ _ _ (by simp [hi])⟩
    rw [← hg]
    funext x
    rw [View.read_apply, View.read_apply, Finset.piecewise_eq_of_notMem _ _ _ (by simp [View.emb_mem_set])]
  · ihave HJ := (pointsTo_join (q := fullShare) (f := g) (g := f) (ℓ := w.view.loc (VT d L)) (Finset.disjoint_sdiff (s := w.view.set) (t := Finset.univ))) $$ [H Hr]
    · isplitl [H]; · iexact H
      iexact Hr
    rw [hu]
    iexact HJ

/-- A whole buffer is all its elements. -/
theorem someVal_univ {sp : Space} {s : Shape} {e : EltTy} (m : Memref sig .scVector sp s e) (h : m.view.set = Finset.univ) :
    (someVal d L m : sProp 𝕄) ⊢ iprop(∃ f : Buf (Elt F) (m.view.loc (VT d L)), m.view.loc (VT d L) ↦[Finset.univ]{fullShare} f) := by
  unfold someVal; rw [h]

theorem univ_someVal {sp : Space} {s : Shape} {e : EltTy} (m : Memref sig .scVector sp s e) (h : m.view.set = Finset.univ)
    (f : Buf (Elt F) (m.view.loc (VT d L))) : (m.view.loc (VT d L) ↦[Finset.univ]{fullShare} f : sProp 𝕄) ⊢ someVal d L m := by
  unfold someVal; rw [h]
  iintro H
  iexists f; iexact H

theorem univ_holds {sp : Space} {s : Shape} {e : EltTy} (m : Memref sig .scVector sp s e) (h : m.view.set = Finset.univ)
    (f : Buf (Elt F) (m.view.loc (VT d L))) :
    (m.view.loc (VT d L) ↦[Finset.univ]{fullShare} f : sProp 𝕄) ⊢ holds d L m (m.view.read (Elt F) f) := by
  unfold holds; rw [h]
  iintro H
  iexists f
  isplitr
  · ipureintro; rfl
  · iexact H

/-! ## The fetch -/

theorem emb_arena {off sz : Fin 1 → ℕ} (inb : ∀ a, off a + sz a ≤ S15872.size a) (o : ℕ) (h : off = ![o])
    (x : (⟨1, sz⟩ : Shape).Idx) : (Rect.unit (s := S15872) off sz inb).emb x = ixA (o + (x 0).val) := by
  subst h
  have h0 : o + sz 0 ≤ 15872 := inb 0
  have hx : (x 0).val < sz 0 := (x 0).isLt
  funext a; apply Fin.ext
  fin_cases a
  show o + 1 * (x 0).val = (o + (x 0).val) % 15872
  rw [Nat.mod_eq_of_lt (by omega)]; omega

theorem emb_numbers {off sz : Fin 1 → ℕ} (inb : ∀ a, off a + sz a ≤ S500000.size a) (o : ℕ) (h : off = ![o])
    (x : (⟨1, sz⟩ : Shape).Idx) : (Rect.unit (s := S500000) off sz inb).emb x = ixI (o + (x 0).val) := by
  subst h
  have h0 : o + sz 0 ≤ 500000 := inb 0
  have hx : (x 0).val < sz 0 := (x 0).isLt
  funext a; apply Fin.ext
  fin_cases a
  show o + 1 * (x 0).val = (o + (x 0).val) % 500000
  rw [Nat.mod_eq_of_lt (by omega)]; omega

/-- A window of the arena that reads what a window of the row numbers does. -/
theorem arena_window {sz : Fin 1 → ℕ} {offA offI : Fin 1 → ℕ} (inbA : ∀ a, offA a + sz a ≤ S15872.size a)
    (inbI : ∀ a, offI a + sz a ≤ S500000.size a) (o p : ℕ) (hoA : offA = ![o]) (hoI : offI = ![p])
    (A : S15872.Idx → Elt F .i32) (I : S500000.Idx → Elt F .i32)
    (h : ∀ x : (⟨1, sz⟩ : Shape).Idx, A ((Rect.unit (s := S15872) offA sz inbA).emb x) = I ((Rect.unit (s := S500000) offI sz inbI).emb x))
    (k : ℕ) (hk : k < sz 0) : A (ixA (o + k)) = I (ixI (p + k)) := by
  have e := h (fun a => ⟨k, by fin_cases a; exact hk⟩)
  rw [emb_arena inbA o hoA, emb_numbers inbI p hoI] at e
  exact e

variable (v : Vals F)

/-- A share of the row numbers. -/
abbrev iP (q : PosShare TreeShare) : sProp 𝕄 := iV.view.loc (VT d L) ↦[(Finset.univ : Finset S500000.Idx)]{q} v.I
/-- The arena whole. -/
abbrev aF (A : S15872.Idx → Elt F .i32) : sProp 𝕄 := aV.view.loc (VT d L) ↦[(Finset.univ : Finset S15872.Idx)]{fullShare} A

variable {d L v}

/-- The fetch leaves the arena with the row numbers of the tile's chunks. -/
theorem wp_fetch {α : Type} {Q : α → sProp 𝕄} {O : CellTallies nD τ sig (HIx 1)} {q : PosShare TreeShare} {k : PUnit → TP F L α} :
    iprop(iP d L v q ∗ someVal d L aV ∗ zero d L cc0_scoped0.sem ∗ zero d L cc0_scoped1.sem ∗ Ow d L O)
      ⊢ iprop((iprop(iP d L v q ∗ (∃ A, ⌜ArenaOK L v.I A⌝ ∗ aF d L A) ∗ zero d L cc0_scoped0.sem ∗ zero d L cc0_scoped1.sem ∗ Ow d L O) -∗ wpT (k ⟨⟩) Q)
          -∗ wpT (fetchK L k) Q) := by
  have hb := off_base L
  unfold fetchK
  iintro ⟨HI, HA, Hz0, Hz1, HO⟩ Hk
  ihave HA' := (someVal_univ d L aV (View.set_whole _)) $$ HA
  icases HA' with ⟨%f0, HA⟩
  ihave HA' := (carve d L a1 f0) $$ HA
  icases HA' with ⟨HA, Hr⟩
  iapply (issue_in (src := i1 L) (dst := a1) (fs := v.I) d L (N := 15616 * 32) rfl (by decide) (Finset.subset_univ _)) $$ [HI HA Hz0]
  · isplitl [HI]; · iexact HI
    isplitl [HA]; · iexact HA
    iexact Hz0
  iintro HF
  iapply (wait_fl d L (N := 15616 * 32) (dstw := a1) rfl) $$ [HF HO]
  · isplitl [HF]; · iexact HF
    iexact HO
  iintro ⟨⟨HA, HI⟩, Hz0, HO⟩
  ihave HA' := (rejoin d L a1 _ f0) $$ [HA Hr]
  · isplitl [HA]; · iexact HA
    iexact Hr
  icases HA' with ⟨%f1, %hf1, HA⟩
  have h1 : ∀ n, n < 15616 → f1 (ixA n) = v.I (ixI (128 * base L + n)) := by
    intro n hn
    have e := arena_window (F := F) (sz := S15616.size) inb_S15872_S15616_0 (k0_off1_inb L) 0 (128 * base L) rfl
      (by rw [k0_off1_eq]; congr 1) f1 v.I (fun x => congrFun hf1.1 x) n hn
    rw [Nat.zero_add] at e
    exact e
  rcases Classical.em (k0_cond1 L = 1#1) with hc | hc
  · rw [dif_pos hc]
    ihave HA' := (carve d L a2 f1) $$ HA
    icases HA' with ⟨HA, Hr⟩
    iapply (issue_in (src := i2 L hc) (dst := a2) (fs := v.I) d L (N := 128 * 32) rfl (by decide) (Finset.subset_univ _)) $$ [HI HA Hz1]
    · isplitl [HI]; · iexact HI
      isplitl [HA]; · iexact HA
      iexact Hz1
    iintro HF
    iapply (wait_fl d L (N := 128 * 32) (dstw := a2) rfl) $$ [HF HO]
    · isplitl [HF]; · iexact HF
      iexact HO
    iintro ⟨⟨HA, HI⟩, Hz1, HO⟩
    ihave HA' := (rejoin d L a2 _ f1) $$ [HA Hr]
    · isplitl [HA]; · iexact HA
      iexact Hr
    icases HA' with ⟨%f2, %hf2, HA⟩
    have h2 : ∀ n, n < 128 → f2 (ixA (15616 + n)) = v.I (ixI (128 * base L + 15616 + n)) := fun n hn =>
      arena_window (F := F) (sz := S128.size) inb_S15872_S128_15616 (k0_off2_inb L hc) 15616 (128 * base L + 15616) rfl
        (by rw [k0_off2_eq]; congr 1; omega) f2 v.I (fun x => congrFun hf2.1 x) n hn
    have hok : ArenaOK L v.I f2 := by
      intro n hn
      rcases Nat.lt_or_ge n 15616 with hl | hl
      · have hni : ixA n ∉ (a2 : Memref sig .scVector .vmem S128 .i32).view.set := by
          intro hm
          rw [show (a2 : Memref sig .scVector .vmem S128 .i32).view.set = (Rect.unit (s := S15872) ![15616] S128.size inb_S15872_S128_15616).set
            from View.set_slice_whole _ _, Rect.mem_set_unit] at hm
          have := (hm 0).1
          change 15616 ≤ n % 15872 at this
          rw [Nat.mod_eq_of_lt (by omega)] at this
          omega
        rw [hf2.2 _ hni]
        exact h1 n hl
      · have hn' : n < 128 * nW L := hn
        have hb' := nW_bounds L
        have e := h2 (n - 15616) (by omega)
        rw [show 15616 + (n - 15616) = n by omega, show 128 * base L + 15616 + (n - 15616) = 128 * base L + n by omega] at e
        exact e
    iapply Hk
    isplitl [HI]; · iexact HI
    isplitl [HA]
    · iexists f2
      isplitr
      · ipureintro; exact hok
      · iexact HA
    isplitl [Hz0]; · iexact Hz0
    isplitl [Hz1]; · iexact Hz1
    iexact HO
  · rw [dif_neg hc]
    have hok : ArenaOK L v.I f1 := by
      intro n hn
      have hw : ¬ wid L < 2 := fun h => hc ((cond1_iff L).mpr h)
      have : nW L = 122 := by unfold nW nOf; rw [if_neg hw]
      exact h1 n (by omega)
    iapply Hk
    isplitl [HI]; · iexact HI
    isplitl [HA]
    · iexists f1
      isplitr
      · ipureintro; exact hok
      · iexact HA
    isplitl [Hz0]; · iexact Hz0
    isplitl [Hz1]; · iexact Hz1
    iexact HO

end Cert.Proof.Gadd

end
-- ==== Proof.Tail.lean ====
/-
  The 32 rows left at the end, which tile 0 sums in the first 32 rows of its slot 0.
-/
module

public import proofs.«01_k».proof.Proof.Arena

@[expose] public section

noncomputable section

namespace Cert.Proof.Gadd

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

local notation "wpT" => wp frame (wpE (defs₀ (F := F)) 𝒱₀ (VT d L) none) Set.univ

/-! ## The first 32 rows of a buffer -/

/-- Index `y` of the first 32 rows, in the buffer. -/
def top (y : S32x128.Idx) : S128x128.Idx := (Rect.unit (s := S128x128) ![0, 0] S32x128.size inb_S128x128_S32x128_0_0).emb y

theorem top_row (y : S32x128.Idx) : (top y 0).val = (y 0).val := by
  show 0 + 1 * (y 0).val = (y 0).val
  omega
theorem top_col (y : S32x128.Idx) : (top y 1).val = (y 1).val := by
  show 0 + 1 * (y 1).val = (y 1).val
  omega

theorem exists_top (x : S128x128.Idx) (h : (x 0).val < 32) : ∃ y, top y = x := by
  have h1 : (x 1).val < 128 := (x 1).isLt
  refine ⟨fun a => ⟨(x a).val, ?_⟩, ?_⟩
  · fin_cases a
    · exact h
    · exact h1
  · funext a; apply Fin.ext
    fin_cases a
    · exact top_row _
    · exact top_col _

/-! ## What is read -/

variable (X : S100000x128.Idx → Elt F .f32) (U : S500000x128.Idx → Elt F .f32) (I : S500000.Idx → Elt F .i32)

/-- The last features. -/
def uchT : S32x128.Idx → Elt F .f32 := fun y => U (ixO (499968 + (y 0).val) (y 1).val)

theorem read_uT : (uT : Memref sig .scVector .hbm S32x128 .f32).view.read (Elt F) U = uchT U := by
  funext y
  exact congrArg U (emb_tail inb_S500000x128_S32x128_499968_0 y)

theorem uchT_eq (y : S32x128.Idx) : uchT U y = uch U 3906 (top y) := by
  unfold uchT uch
  rw [top_row, top_col]

theorem read_oT (y : S32x128.Idx) : (oT : Memref sig .scVector .hbm S32x128 .f32).view.read (Elt F) (G X U I) y = sch X U I 3906 (top y) := by
  have hy : (y 0).val < 32 := (y 0).isLt
  rw [sch_eq X U I 3906 (top y) (by rw [top_row]; omega), top_row, top_col]
  exact congrArg (G X U I) (emb_tail inb_S500000x128_S32x128_499968_0 y)

theorem set_oT : (oT : Memref sig .scVector .hbm S32x128 .f32).view.set = blk 3906 :=
  (View.set_slice_whole _ _).trans (set_tail inb_S500000x128_S32x128_499968_0)

theorem read_a3 {I : S500000.Idx → Elt F .i32} {A : S15872.Idx → Elt F .i32}
    (hA : (a3 : Memref sig .scVector .vmem S32 .i32).view.read (Elt F) A = (i3 : Memref sig .scVector .hbm S32 .i32).view.read (Elt F) I)
    (y : S32.Idx) : (a3 : Memref sig .scVector .vmem S32 .i32).view.read (Elt F) A y = I (ixI (499968 + (y 0).val)) := by
  rw [hA]
  exact congrArg I (emb_numbers (sz := S32.size) inb_S500000_S32_499968 499968 rfl y)

/-- The last gather's payload. -/
theorem gatherT_eq {X : S100000x128.Idx → Elt F .f32} {I : S500000.Idx → Elt F .i32} {A : S15872.Idx → Elt F .i32}
    (hA : (a3 : Memref sig .scVector .vmem S32 .i32).view.read (Elt F) A = (i3 : Memref sig .scVector .hbm S32 .i32).view.read (Elt F) I)
    (hin : ∀ x, ((a3 : Memref sig .scVector .vmem S32 .i32).view.read (Elt F) A x).toNat < S100000x128.size gathers_S100000x128_S32x128.axis)
    (y : S32x128.Idx) :
    SparseCore.gatherPayload gathers_S100000x128_S32x128 (xW.view.read (Elt F) X)
      (SparseCore.rows ((a3 : Memref sig .scVector .vmem S32 .i32).view.read (Elt F) A) rfl hin) y = gch X I 3906 (top y) := by
  have hy1 : (y 1).val < 128 := (y 1).isLt
  have hk : ∀ z : S32.Idx, (z 0).val = (y 0).val →
      ((a3 : Memref sig .scVector .vmem S32 .i32).view.read (Elt F) A z).toNat = (I (ixI (128 * 3906 + (top y 0).val))).toNat := by
    intro z hz
    rw [read_a3 hA z, hz, top_row]
  refine congrArg X ?_
  funext a; apply Fin.ext
  fin_cases a
  · show 0 + 1 * (gathers_S100000x128_S32x128.idx _ y gathers_S100000x128_S32x128.axis).val = _ % 100000
    rw [Shape.Gathers.idx_axis]
    show 0 + 1 * ((a3 : Memref sig .scVector .vmem S32 .i32).view.read (Elt F) A (S32.rowMajor.symm _)).toNat
      = (I (ixI (128 * 3906 + (top y 0).val))).toNat % 100000
    have e := hk (S32.rowMajor.symm ((y 0).cast rfl)) (by
      rw [← Shape.rowMajor_val_one, Equiv.apply_symm_apply]; rfl)
    have hl := hin (S32.rowMajor.symm ((y 0).cast rfl))
    change _ < 100000 at hl
    rw [← e, Nat.mod_eq_of_lt hl, Nat.zero_add, Nat.one_mul]
    rfl
  · show 0 + 1 * (gathers_S100000x128_S32x128.idx _ y 1).val = (top y 1).val % 128
    rw [Shape.Gathers.idx_of_ne _ _ _ _ (by decide), top_col, Nat.mod_eq_of_lt hy1, Nat.zero_add, Nat.one_mul]
    rfl

/-! ## The rules -/

variable (v : Vals F)

/-- The copy of the last features on its way, into the part of its buffer set apart. -/
def TailCopy (qu : PosShare TreeShare) : sProp 𝕄 :=
  iprop(Fl d L cc0_scoped3.sem (32 * 128 * 32) iprop(holds d L bT (uchT v.U) ∗ uP d L v qu)
    ∗ ∃ f : Buf (Elt F) ((bT : Memref sig .scVector .vmem S32x128 .f32).view.loc (VT d L)),
        (bT : Memref sig .scVector .vmem S32x128 .f32).view.loc (VT d L) ↦[Finset.univ \ (bT : Memref sig .scVector .vmem S32x128 .f32).view.set]{fullShare} f)

/-- The gathered rows, in the first 32 rows of slot 0's buffer. -/
def TailRows : sProp 𝕄 :=
  iprop(∃ r, ⌜∀ y, r (top y) = gch v.X v.I 3906 (top y)⌝ ∗ holds d L slot0.rows r)

variable {d L v}

theorem wp_tailLoad {α : Type} {Q : α → sProp 𝕄} {O : CellTallies nD τ sig (HIx 1)} (hI : InRange v.I) {qi qx qu : PosShare TreeShare}
    {k : PUnit → TP F L α} :
    iprop(iP d L v qi ∗ someVal d L aV ∗ xP d L v qx ∗ uP d L v qu ∗ someVal d L slot0.rows ∗ someVal d L slot0.upb
        ∗ zero d L cc0_scoped2.sem ∗ zero d L cc0_scratch16.sem ∗ zero d L cc0_scoped3.sem ∗ Ow d L O)
      ⊢ iprop((iprop(iP d L v qi ∗ someVal d L aV ∗ xP d L v qx ∗ TailCopy d L v qu ∗ TailRows d L v
            ∗ zero d L cc0_scoped2.sem ∗ zero d L cc0_scratch16.sem ∗ Ow d L O) -∗ wpT (k ⟨⟩) Q)
          -∗ wpT (tailLoadK L k) Q) := by
  unfold tailLoadK TailCopy TailRows
  iintro ⟨HI, HA, HX, HU, Hr, Hu, Hz2, Hzt, Hz3, HO⟩ Hk
  -- the row numbers
  ihave HA' := (someVal_univ d L aV (View.set_whole _)) $$ HA
  icases HA' with ⟨%f0, HA⟩
  ihave HA' := (carve d L a3 f0) $$ HA
  icases HA' with ⟨HA, Hra⟩
  iapply (issue_in (src := i3) (dst := a3) (fs := v.I) d L (N := 32 * 32) rfl (by decide) (Finset.subset_univ _)) $$ [HI HA Hz2]
  · isplitl [HI]; · iexact HI
    isplitl [HA]; · iexact HA
    iexact Hz2
  iintro HF
  iapply (wait_fl d L (N := 32 * 32) (dstw := a3) rfl) $$ [HF HO]
  · isplitl [HF]; · iexact HF
    iexact HO
  iintro ⟨⟨HA, HI⟩, Hz2, HO⟩
  ihave HA' := (rejoin d L a3 _ f0) $$ [HA Hra]
  · isplitl [HA]; · iexact HA
    iexact Hra
  icases HA' with ⟨%A, %hA, HA⟩
  have hin : ∀ x, ((a3 : Memref sig .scVector .vmem S32 .i32).view.read (Elt F) A x).toNat < S100000x128.size gathers_S100000x128_S32x128.axis := by
    intro x
    rw [read_a3 hA.1]
    exact hI _
  -- the gather
  ihave Hr' := (someVal_univ d L slot0.rows (View.set_whole _)) $$ Hr
  icases Hr' with ⟨%g0, Hr⟩
  ihave Hr' := (carve d L rT g0) $$ Hr
  icases Hr' with ⟨Hr, Hrr⟩
  iapply (issue_gather (src := xW) (dst := rT) (offs := a3) (fs := v.X) (fo := A) d L (N := 32 * 128 * 32) rfl (fun _ => rfl) (by decide)
    (Finset.subset_univ _) (Finset.subset_univ _) hin) $$ [Hr HX HA Hzt]
  · isplitl [HX]; · iexact HX
    isplitl [Hr]; · iexact Hr
    isplitl [HA]; · iexact HA
    iexact Hzt
  iintro HF
  iapply (wait_fl d L (N := 32 * 128 * 32) (dstw := rT) rfl) $$ [HF HO]
  · isplitl [HF]; · iexact HF
    iexact HO
  iintro ⟨⟨Hr, HX, HA⟩, Hzt, HO⟩
  ihave Hr' := (rejoin d L rT _ g0) $$ [Hr Hrr]
  · isplitl [Hr]; · iexact Hr
    iexact Hrr
  icases Hr' with ⟨%g, %hg, Hr⟩
  have hrows : ∀ y, slot0.rows.view.read (Elt F) g (top y) = gch v.X v.I 3906 (top y) := by
    intro y
    rw [← gatherT_eq hA.1 hin y]
    exact congrFun hg.1 y
  -- the copy
  ihave Hu' := (someVal_univ d L slot0.upb (View.set_whole _)) $$ Hu
  icases Hu' with ⟨%b0, Hu⟩
  ihave Hu' := (carve d L bT b0) $$ Hu
  icases Hu' with ⟨Hu, Hru⟩
  iapply (issue_in (src := uT) (dst := bT) (fs := v.U) d L (N := 32 * 128 * 32) rfl (by decide) (Finset.subset_univ _)) $$ [HU Hu Hz3]
  · isplitl [HU]; · iexact HU
    isplitl [Hu]; · iexact Hu
    iexact Hz3
  rw [read_uT v.U]
  iintro HF
  iapply Hk
  isplitl [HI]; · iexact HI
  isplitl [HA]
  · iapply (univ_someVal d L aV (View.set_whole _) A)
    iexact HA
  isplitl [HX]; · iexact HX
  isplitl [HF Hru]
  · isplitl [HF]; · iexact HF
    iexists b0; iexact Hru
  isplitl [Hr]
  · iexists (slot0.rows.view.read (Elt F) g)
    isplitr
    · ipureintro; exact hrows
    · iapply (univ_holds d L slot0.rows (View.set_whole _) g)
      iexact Hr
  isplitl [Hz2]; · iexact Hz2
  isplitl [Hzt]; · iexact Hzt
  iexact HO

/-- What a buffer holds, its first 32 rows hold there. -/
theorem holds_top (w : S128x128.Idx → Elt F .f32) :
    (holds d L slot0.rows w : sProp 𝕄)
      ⊢ iprop(holds d L rT (fun y => w (top y))
          ∗ ∃ f : Buf (Elt F) ((rT : Memref sig .scVector .vmem S32x128 .f32).view.loc (VT d L)),
            (rT : Memref sig .scVector .vmem S32x128 .f32).view.loc (VT d L) ↦[Finset.univ \ (rT : Memref sig .scVector .vmem S32x128 .f32).view.set]{fullShare} f) := by
  unfold holds
  rw [show slot0.rows.view.set = Finset.univ from View.set_whole _]
  iintro ⟨%f, %hf, H⟩
  ihave H' := (pointsTo_split_subset (q := fullShare) (f := f) (ℓ := (rT : Memref sig .scVector .vmem S32x128 .f32).view.loc (VT d L))
    (Finset.subset_univ (rT : Memref sig .scVector .vmem S32x128 .f32).view.set)).1 $$ H
  icases H' with ⟨H, Hr⟩
  isplitl [H]
  · iexists f
    isplitr
    · ipureintro
      funext y
      exact congrFun hf (top y)
    · iexact H
  · iexists f; iexact Hr

theorem wp_tailStore {α : Type} {Q : α → sProp 𝕄} {O : CellTallies nD τ sig (HIx 1)} (h : k0_cond12 L = 1#1) {qu : PosShare TreeShare}
    {k : PUnit → TP F L α} :
    iprop(TailCopy d L v qu ∗ TailRows d L v ∗ oI d L v 3906 ∗ zero d L cc0_scoped4.sem ∗ Ow d L O)
      ⊢ iprop((iprop(uP d L v qu ∗ someVal d L slot0.rows ∗ someVal d L slot0.upb ∗ oD d L v 3906
            ∗ zero d L cc0_scoped3.sem ∗ zero d L cc0_scoped4.sem ∗ Ow d L O) -∗ wpT (k ⟨⟩) Q)
          -∗ wpT (tailStoreK L h k) Q) := by
  unfold tailStoreK TailCopy TailRows
  iintro ⟨⟨HF, ⟨%b0, Hru⟩⟩, ⟨%r, %hr, Hr⟩, Ho, Hz4, HO⟩ Hk
  iapply (wait_fl d L (N := 32 * 128 * 32) (dstw := bT) rfl) $$ [HF HO]
  · isplitl [HF]; · iexact HF
    iexact HO
  iintro ⟨⟨Hu, HU⟩, Hz3, HO⟩
  ihave Hu' := (rejoin d L bT _ b0) $$ [Hu Hru]
  · isplitl [Hu]; · iexact Hu
    iexact Hru
  icases Hu' with ⟨%b, %hb, Hu⟩
  ihave Hu := (univ_holds d L slot0.upb (View.set_whole _) b) $$ Hu
  iapply (wp_rows d L slot0.rows slot0.upb k0_t5_loop (k0_t5_ok L h) (body5 L h)
    (rows_t5 d L _ _ _ _ _ _ _ _ _ _ _ _ _ _ _ _ _ _ _ _ _ _ _ _ _ _ _ _ _ _ _ _ _ _ _ _ _ h)) $$ [Hr Hu]
  · isplitl [Hr]; · iexact Hr
    iexact Hu
  iintro ⟨Hr, Hu⟩
  have hsum : (fun y => summed k0_t5_loop.trips 0 r (slot0.upb.view.read (Elt F) b) (top y)) = fun y => sch v.X v.U v.I 3906 (top y) := by
    funext y
    rw [summed_apply _ _ _ _ (by rw [trips_t5, top_row]; exact (y 0).isLt), hr y]
    refine congrArg (plus _) ?_
    rw [← uchT_eq]
    exact congrFun hb.1 y
  ihave Hr' := (holds_top _) $$ Hr
  icases Hr' with ⟨Hr, ⟨%g0, Hrr⟩⟩
  rw [hsum]
  iapply (issue_out (src := rT) (dst := oT) (G := G v.X v.U v.I) d L (N := 32 * 128 * 32) rfl (by decide)
    (funext fun y => read_oT v.X v.U v.I y)) $$ [Hr Ho Hz4]
  · isplitl [Hr]; · iexact Hr
    isplitl [Ho]
    · rw [set_oT]; iexact Ho
    iexact Hz4
  rw [set_oT]
  iintro HF
  iapply (wait_fl d L (N := 32 * 128 * 32) (dstw := oT) rfl) $$ [HF HO]
  · isplitl [HF]; · iexact HF
    iexact HO
  iintro ⟨⟨Hr, Ho⟩, Hz4, HO⟩
  ihave Hr' := (rejoin d L rT _ g0) $$ [Hr Hrr]
  · isplitl [Hr]; · iexact Hr
    iexact Hrr
  icases Hr' with ⟨%g, -, Hr⟩
  iapply Hk
  isplitl [HU]; · iexact HU
  isplitl [Hr]
  · iapply (univ_someVal d L slot0.rows (View.set_whole _) g)
    iexact Hr
  isplitl [Hu]; · iapply (someVal_of_holds d L slot0.upb _); iexact Hu
  isplitl [Ho]; · iexact Ho
  isplitl [Hz3]; · iexact Hz3
  isplitl [Hz4]; · iexact Hz4
  iexact HO

end Cert.Proof.Gadd

end
-- ==== Proof.Tile.lean ====
/-
  A tile's whole run.
-/
module

public import proofs.«01_k».proof.Proof.Tail
public import Idealize.SL.BI.BigOpNat

@[expose] public section

noncomputable section

namespace Cert.Proof.Gadd

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

local notation "wpT" => wp frame (wpE (defs₀ (F := F)) 𝒱₀ (VT d L) none) Set.univ

variable (v : Vals F)

/-! ## What a tile owns -/

/-- Its seven buffers, whatever they hold; -/
def Bufs : sProp 𝕄 :=
  iprop(someVal d L aV ∗ someVal d L slot0.rows ∗ someVal d L slot1.rows ∗ someVal d L slot2.rows
    ∗ someVal d L slot0.upb ∗ someVal d L slot1.upb ∗ someVal d L slot2.upb)

/-- its slots' semaphores, at zero, -/
def Zeros9 : sProp 𝕄 :=
  iprop(zero d L cc0_scratch7.sem ∗ zero d L cc0_scratch8.sem ∗ zero d L cc0_scratch9.sem ∗ zero d L cc0_scratch10.sem ∗ zero d L cc0_scratch11.sem
    ∗ zero d L cc0_scratch12.sem ∗ zero d L cc0_scratch13.sem ∗ zero d L cc0_scratch14.sem ∗ zero d L cc0_scratch15.sem)

/-- and the others. -/
def Zeros6 : sProp 𝕄 :=
  iprop(zero d L cc0_scratch16.sem ∗ zero d L cc0_scoped0.sem ∗ zero d L cc0_scoped1.sem ∗ zero d L cc0_scoped2.sem ∗ zero d L cc0_scoped3.sem
    ∗ zero d L cc0_scoped4.sem)

/-- The chunk left at the end, which tile 0 takes besides its own. -/
def last (P : sProp 𝕄) : sProp 𝕄 := if wid L = 0 then P else iprop(emp)

/-! ## Shares dealt to the slots -/

/-- A share cut in three, and what is left. -/
theorem toks3 {ℓ : Loc nD τ sig} {S : Finset (Idx ℓ)} (q : PosShare TreeShare) (f : Buf (Elt F) ℓ) :
    (ℓ ↦[S]{q} f : sProp 𝕄) ⊣⊢ iprop((ℓ ↦[S]{Transfers.shareDrop q 3} f) ∗ (ℓ ↦[S]{Transfers.shareTokN q 2} f)
      ∗ (ℓ ↦[S]{Transfers.shareTokN q 1} f) ∗ (ℓ ↦[S]{Transfers.shareTokN q 0} f) ∗ emp) := by
  have h : (ℓ ↦[S]{q} f : sProp 𝕄) ⊣⊢ iprop((ℓ ↦[S]{Transfers.shareDrop q 3} f) ∗ bigSep (Finset.range 3) (fun i => ℓ ↦[S]{Transfers.shareTokN q i} f)) :=
    Transfers.pointsTo_toks_range q 3
  rw [bigSep_range_succ, bigSep_range_succ, bigSep_range_succ, Finset.range_zero, bigSep_empty] at h
  exact h

/-- What is left of the shares the slots read by. -/
def Drops (qx qu : PosShare TreeShare) : sProp 𝕄 :=
  iprop(xP d L v (Transfers.shareDrop qx 3) ∗ uP d L v (Transfers.shareDrop qu 3) ∗ aP d L v (Transfers.shareDrop fullShare 3))

variable {d L v}

/-- The slots dealt their buffers, semaphores and shares; -/
theorem deal (qx qu : PosShare TreeShare) :
    (iprop(xP d L v qx ∗ uP d L v qu ∗ aF d L v.A ∗ (someVal d L slot0.rows ∗ someVal d L slot1.rows ∗ someVal d L slot2.rows
        ∗ someVal d L slot0.upb ∗ someVal d L slot1.upb ∗ someVal d L slot2.upb) ∗ Zeros9 d L) : sProp 𝕄)
      ⊢ iprop(Idle d L v (seat0 qx qu) ∗ Idle d L v (seat1 qx qu) ∗ Idle d L v (seat2 qx qu) ∗ Drops d L v qx qu) := by
  unfold Zeros9 Idle Drops
  iintro ⟨HX, HU, HA, ⟨Hr0, Hr1, Hr2, Hb0, Hb1, Hb2⟩, ⟨Hg0, Hg1, Hg2, Hu0, Hu1, Hu2, Ho0, Ho1, Ho2⟩⟩
  ihave HX' := (toks3 qx _).1 $$ HX
  icases HX' with ⟨HX, HX2, HX1, HX0, -⟩
  ihave HU' := (toks3 qu _).1 $$ HU
  icases HU' with ⟨HU, HU2, HU1, HU0, -⟩
  ihave HA' := (toks3 fullShare _).1 $$ HA
  icases HA' with ⟨HA, HA2, HA1, HA0, -⟩
  isplitl [Hr0 Hb0 Hg0 Hu0 Ho0 HX0 HU0 HA0]
  · isplitl [Hr0]; · iexact Hr0
    isplitl [Hb0]; · iexact Hb0
    isplitl [Hg0]; · iexact Hg0
    isplitl [Hu0]; · iexact Hu0
    isplitl [Ho0]; · iexact Ho0
    isplitl [HX0]; · iexact HX0
    isplitl [HU0]; · iexact HU0
    iexact HA0
  isplitl [Hr1 Hb1 Hg1 Hu1 Ho1 HX1 HU1 HA1]
  · isplitl [Hr1]; · iexact Hr1
    isplitl [Hb1]; · iexact Hb1
    isplitl [Hg1]; · iexact Hg1
    isplitl [Hu1]; · iexact Hu1
    isplitl [Ho1]; · iexact Ho1
    isplitl [HX1]; · iexact HX1
    isplitl [HU1]; · iexact HU1
    iexact HA1
  isplitl [Hr2 Hb2 Hg2 Hu2 Ho2 HX2 HU2 HA2]
  · isplitl [Hr2]; · iexact Hr2
    isplitl [Hb2]; · iexact Hb2
    isplitl [Hg2]; · iexact Hg2
    isplitl [Hu2]; · iexact Hu2
    isplitl [Ho2]; · iexact Ho2
    isplitl [HX2]; · iexact HX2
    isplitl [HU2]; · iexact HU2
    iexact HA2
  isplitl [HX]; · iexact HX
  isplitl [HU]; · iexact HU
  iexact HA

/-- and all of it taken back. -/
theorem undeal (qx qu : PosShare TreeShare) :
    (iprop(Idle d L v (seat0 qx qu) ∗ Idle d L v (seat1 qx qu) ∗ Idle d L v (seat2 qx qu) ∗ Drops d L v qx qu) : sProp 𝕄)
      ⊢ iprop(xP d L v qx ∗ uP d L v qu ∗ Bufs d L ∗ Zeros9 d L) := by
  unfold Bufs Zeros9 Idle Drops
  iintro ⟨⟨Hr0, Hb0, Hg0, Hu0, Ho0, HX0, HU0, HA0⟩, ⟨Hr1, Hb1, Hg1, Hu1, Ho1, HX1, HU1, HA1⟩, ⟨Hr2, Hb2, Hg2, Hu2, Ho2, HX2, HU2, HA2⟩, ⟨HX, HU, HA⟩⟩
  isplitl [HX HX0 HX1 HX2]
  · iapply (toks3 qx _).2
    isplitl [HX]; · iexact HX
    isplitl [HX2]; · iexact HX2
    isplitl [HX1]; · iexact HX1
    isplitl [HX0]; · iexact HX0
    iempintro
  isplitl [HU HU0 HU1 HU2]
  · iapply (toks3 qu _).2
    isplitl [HU]; · iexact HU
    isplitl [HU2]; · iexact HU2
    isplitl [HU1]; · iexact HU1
    isplitl [HU0]; · iexact HU0
    iempintro
  isplitl [HA HA0 HA1 HA2 Hr0 Hr1 Hr2 Hb0 Hb1 Hb2]
  · isplitl [HA HA0 HA1 HA2]
    · iapply (univ_someVal d L aV (View.set_whole _) v.A)
      iapply (toks3 fullShare _).2
      isplitl [HA]; · iexact HA
      isplitl [HA2]; · iexact HA2
      isplitl [HA1]; · iexact HA1
      isplitl [HA0]; · iexact HA0
      iempintro
    isplitl [Hr0]; · iexact Hr0
    isplitl [Hr1]; · iexact Hr1
    isplitl [Hr2]; · iexact Hr2
    isplitl [Hb0]; · iexact Hb0
    isplitl [Hb1]; · iexact Hb1
    iexact Hb2
  isplitl [Hg0]; · iexact Hg0
  isplitl [Hg1]; · iexact Hg1
  isplitl [Hg2]; · iexact Hg2
  isplitl [Hu0]; · iexact Hu0
  isplitl [Hu1]; · iexact Hu1
  isplitl [Hu2]; · iexact Hu2
  isplitl [Ho0]; · iexact Ho0
  isplitl [Ho1]; · iexact Ho1
  iexact Ho2

/-! ## The pieces of the run -/

/-- A write waited for: its chunk done, its slot idle. -/
theorem wp_drain {e : Seat} {s : Slot} (hs : e.s = s) {α : Type} {Q : α → sProp 𝕄} {O : CellTallies nD τ sig (HIx 1)} {i : ℕ} {k : PUnit → TP F L α} :
    iprop(Write d L v e i ∗ Ow d L O)
      ⊢ iprop((iprop(Idle d L v e ∗ oD d L v i ∗ Ow d L O) -∗ wpT (k ⟨⟩) Q) -∗ wpT (drainK L s k) Q) := by
  subst hs
  unfold drainK Write Idle
  iintro ⟨⟨HF, Hb, Hg, Hu, HX, HU, HA⟩, HO⟩ Hk
  iapply (wait_fl d L (N := 524288) (dstw := oW) rfl) $$ [HF HO]
  · isplitl [HF]; · iexact HF
    iexact HO
  iintro ⟨⟨Hr, Hd⟩, Ho, HO⟩
  iapply Hk
  isplitr [Hd HO]
  · isplitl [Hr]; · iapply (someVal_of_holds d L e.s.rows _); iexact Hr
    isplitl [Hb]; · iexact Hb
    isplitl [Hg]; · iexact Hg
    isplitl [Hu]; · iexact Hu
    isplitl [Ho]; · iexact Ho
    isplitl [HX]; · iexact HX
    isplitl [HU]; · iexact HU
    iexact HA
  isplitl [Hd]; · iexact Hd
  iexact HO

/-- The last three chunks written are the tile's last three. -/
theorem done_all :
    (iprop(oD d L v (base L + 120) ∗ oD d L v (base L + 121) ∗ oD d L v (base L + (if nW L = 123 then 122 else 119)) ∗ Done d L v (nW L - 3)) : sProp 𝕄)
      ⊢ Done d L v (nW L) := by
  have hn := nW_bounds L
  rcases Classical.em (nW L = 123) with h | h
  · rw [if_pos h, h, show (123 : ℕ) = 120 + 1 + 1 + 1 from rfl, show 120 + 1 + 1 + 1 - 3 = 120 from rfl, Done_succ (120 + 1 + 1), Done_succ (120 + 1), Done_succ 120]
    iintro ⟨H0, H1, H2, HD⟩
    isplitl [H2]; · iexact H2
    isplitl [H1]; · iexact H1
    isplitl [H0]; · iexact H0
    iexact HD
  · rw [if_neg h, show nW L = 119 + 1 + 1 + 1 by omega, show 119 + 1 + 1 + 1 - 3 = 119 from rfl, Done_succ (119 + 1 + 1), Done_succ (119 + 1), Done_succ 119]
    iintro ⟨H0, H1, H2, HD⟩
    isplitl [H1]; · iexact H1
    isplitl [H0]; · iexact H0
    isplitl [H2]; · iexact H2
    iexact HD

/-- The rows left at the end, on tile 0; nothing on another. -/
theorem wp_tail {O : CellTallies nD τ sig (HIx 1)} (hI : InRange v.I) {qi qx qu : PosShare TreeShare} {Q : PUnit → sProp 𝕄} :
    iprop(iP d L v qi ∗ xP d L v qx ∗ uP d L v qu ∗ Bufs d L ∗ Zeros6 d L ∗ last L (oI d L v 3906) ∗ Ow d L O)
      ⊢ iprop((iprop(iP d L v qi ∗ xP d L v qx ∗ uP d L v qu ∗ Bufs d L ∗ Zeros6 d L ∗ last L (oD d L v 3906) ∗ Ow d L O) -∗ Q ⟨⟩)
        -∗ wpT (if h : k0_cond12 L = 1#1 then part9 (F := F) L >>= fun _ => tailStoreK L h fun _ => pure ⟨⟩ else pure ⟨⟩) Q) := by
  rcases Classical.em (k0_cond12 L = 1#1) with h | h
  · rw [dif_pos h, wp_bind, part9_eq]
    unfold last
    rw [if_pos ((cond12_iff L).mp h), if_pos ((cond12_iff L).mp h)]
    unfold Bufs Zeros6
    iintro ⟨HI, HX, HU, ⟨HA, Hr0, Hr1, Hr2, Hb0, Hb1, Hb2⟩, ⟨Hzt, Hz0, Hz1, Hz2, Hz3, Hz4⟩, Ho, HO⟩ Hk
    iapply (wp_tailLoad hI) $$ [HI HX HU HA Hr0 Hb0 Hzt Hz2 Hz3 HO]
    · isplitl [HI]; · iexact HI
      isplitl [HA]; · iexact HA
      isplitl [HX]; · iexact HX
      isplitl [HU]; · iexact HU
      isplitl [Hr0]; · iexact Hr0
      isplitl [Hb0]; · iexact Hb0
      isplitl [Hz2]; · iexact Hz2
      isplitl [Hzt]; · iexact Hzt
      isplitl [Hz3]; · iexact Hz3
      iexact HO
    iintro ⟨HI, HA, HX, HC, HR, Hz2, Hzt, HO⟩
    iapply (wpT_pure d L)
    iapply (wp_tailStore h) $$ [HC HR Ho Hz4 HO]
    · isplitl [HC]; · iexact HC
      isplitl [HR]; · iexact HR
      isplitl [Ho]; · iexact Ho
      isplitl [Hz4]; · iexact Hz4
      iexact HO
    iintro ⟨HU, Hr0, Hb0, Ho, Hz3, Hz4, HO⟩
    iapply (wpT_pure d L)
    iapply Hk
    isplitl [HI]; · iexact HI
    isplitl [HX]; · iexact HX
    isplitl [HU]; · iexact HU
    isplitl [HA Hr0 Hr1 Hr2 Hb0 Hb1 Hb2]
    · isplitl [HA]; · iexact HA
      isplitl [Hr0]; · iexact Hr0
      isplitl [Hr1]; · iexact Hr1
      isplitl [Hr2]; · iexact Hr2
      isplitl [Hb0]; · iexact Hb0
      isplitl [Hb1]; · iexact Hb1
      iexact Hb2
    isplitl [Hzt Hz0 Hz1 Hz2 Hz3 Hz4]
    · isplitl [Hzt]; · iexact Hzt
      isplitl [Hz0]; · iexact Hz0
      isplitl [Hz1]; · iexact Hz1
      isplitl [Hz2]; · iexact Hz2
      isplitl [Hz3]; · iexact Hz3
      iexact Hz4
    isplitl [Ho]; · iexact Ho
    iexact HO
  · rw [dif_neg h]
    unfold last
    rw [if_neg (fun hw => h ((cond12_iff L).mpr hw)), if_neg (fun hw => h ((cond12_iff L).mpr hw))]
    iintro H Hk
    iapply (wpT_pure d L)
    iapply Hk
    iexact H

/-- A tile's run: with shares of the arguments and its chunks of the result, it writes those chunks' final values. -/
theorem wp_tile {O : CellTallies nD τ sig (HIx 1)} (hI : InRange v.I) {qi qx qu : PosShare TreeShare} {Q : PUnit → sProp 𝕄} :
    iprop(iP d L v qi ∗ xP d L v qx ∗ uP d L v qu ∗ Bufs d L ∗ Zeros9 d L ∗ Zeros6 d L ∗ Init d L v 0 ∗ last L (oI d L v 3906) ∗ Ow d L O)
      ⊢ iprop((iprop(iP d L v qi ∗ xP d L v qx ∗ uP d L v qu ∗ Bufs d L ∗ Zeros9 d L ∗ Zeros6 d L ∗ Done d L v (nW L) ∗ last L (oD d L v 3906)
          ∗ Ow d L O) -∗ Q ⟨⟩) -∗ wpT (tile (F := F) L) Q) := by
  have hb := off_base L
  have hn := nW_bounds L
  rw [tile_eq, wp_bind, part10_eq]
  unfold Bufs Zeros6
  iintro ⟨HI, HX, HU, ⟨HA, Hbufs⟩, H9, ⟨Hzt, Hz0, Hz1, Hz2, Hz3, Hz4⟩, Hin, Hl, HO⟩ Hk
  iapply wp_fetch $$ [HI HA Hz0 Hz1 HO]
  · isplitl [HI]; · iexact HI
    isplitl [HA]; · iexact HA
    isplitl [Hz0]; · iexact Hz0
    isplitl [Hz1]; · iexact Hz1
    iexact HO
  iintro ⟨HI, ⟨%A, %hA, HA⟩, Hz0, Hz1, HO⟩
  ihave Hd := (deal (v := { v with A := A }) qx qu) $$ [HX HU HA Hbufs H9]
  · isplitl [HX]; · iexact HX
    isplitl [HU]; · iexact HU
    isplitl [HA]; · iexact HA
    isplitl [Hbufs]; · iexact Hbufs
    iexact H9
  icases Hd with ⟨H0, H1, H2, Hdr⟩
  iapply (wp_issue_idle (v := { v with A := A }) (e := seat0 qx qu) (j := 0) hA hI (by omega) (cond2_one L) (by decide)
    rfl (by rw [k0_off3_eq]; congr 1)) $$ [H0]
  · iexact H0
  iintro H0
  iapply (wp_loop (v := { v with A := A }) (qx := qx) (qu := qu) (O := O) hA hI) $$ [H0 H1 H2 Hin HO]
  · unfold Head Post Pre
    rw [if_pos (show 3 * 0 < nW L by omega), if_pos (by omega), if_pos (by omega), show dn (nW L) (3 * 0 + 1) = 0 from Nat.zero_min _]
    isplitl [H0]; · iexact H0
    isplitl [H1]; · iexact H1
    isplitl [H2]; · iexact H2
    isplitr
    · unfold Done
      rw [Finset.range_zero, bigSep_empty]
      iempintro
    isplitl [Hin]; · iexact Hin
    iexact HO
  iintro %a ⟨H0, H1, H2, HD, HO⟩
  iapply (wp_drain (v := { v with A := A }) (e := seat0 qx qu) rfl) $$ [H0 HO]
  · isplitl [H0]; · iexact H0
    iexact HO
  iintro ⟨H0, Hd0, HO⟩
  iapply (wpT_pure d L)
  unfold restK
  iapply (wp_drain (v := { v with A := A }) (e := seat1 qx qu) rfl) $$ [H1 HO]
  · isplitl [H1]; · iexact H1
    iexact HO
  iintro ⟨H1, Hd1, HO⟩
  iapply (wp_drain (v := { v with A := A }) (e := seat2 qx qu) rfl) $$ [H2 HO]
  · isplitl [H2]; · iexact H2
    iexact HO
  iintro ⟨H2, Hd2, HO⟩
  ihave HD := (done_all (v := { v with A := A })) $$ [Hd0 Hd1 Hd2 HD]
  · isplitl [Hd0]; · iexact Hd0
    isplitl [Hd1]; · iexact Hd1
    isplitl [Hd2]; · iexact Hd2
    iexact HD
  ihave Hu := (undeal (v := { v with A := A }) qx qu) $$ [H0 H1 H2 Hdr]
  · isplitl [H0]; · iexact H0
    isplitl [H1]; · iexact H1
    isplitl [H2]; · iexact H2
    iexact Hdr
  icases Hu with ⟨HX, HU, HB, H9⟩
  iapply (wp_tail (v := v) hI) $$ [HI HX HU HB Hzt Hz0 Hz1 Hz2 Hz3 Hz4 Hl HO]
  · isplitl [HI]; · iexact HI
    isplitl [HX]; · iexact HX
    isplitl [HU]; · iexact HU
    isplitl [HB]; · iexact HB
    isplitl [Hzt Hz0 Hz1 Hz2 Hz3 Hz4]
    · unfold Zeros6
      isplitl [Hzt]; · iexact Hzt
      isplitl [Hz0]; · iexact Hz0
      isplitl [Hz1]; · iexact Hz1
      isplitl [Hz2]; · iexact Hz2
      isplitl [Hz3]; · iexact Hz3
      iexact Hz4
    isplitl [Hl]; · iexact Hl
    iexact HO
  unfold Bufs Zeros6
  iintro ⟨HI, HX, HU, HB, H6, Hl, HO⟩
  iapply Hk
  isplitl [HI]; · iexact HI
  isplitl [HX]; · iexact HX
  isplitl [HU]; · iexact HU
  isplitl [HB]; · iexact HB
  isplitl [H9]; · iexact H9
  isplitl [H6]; · iexact H6
  isplitl [HD]; · iexact HD
  isplitl [Hl]; · iexact Hl
  iexact HO

end Cert.Proof.Gadd

end
-- ==== Proof.Deal.lean ====
/-
  What the launch deals to the tiles: a share of each argument and the tile's chunks of the result; and the tile's own
  buffers and semaphores, one by one.
-/
module

public import proofs.«01_k».proof.Proof.Tile

@[expose] public section

noncomputable section

namespace Cert.Proof.Gadd

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## Tiles by number -/

/-- The chunks of tile `w`. -/
def chunksOf (w : ℕ) : Finset ℕ :=
  if w = 0 then insert 3906 ((Finset.range (nOf w)).image (baseOf w + ·)) else (Finset.range (nOf w)).image (baseOf w + ·)

/-- The elements of the result that tile `w` writes. -/
def own (w : ℕ) : Finset S500000x128.Idx := (chunksOf w).biUnion blk

theorem mem_chunksOf (w c : ℕ) : c ∈ chunksOf w ↔ (∃ j < nOf w, baseOf w + j = c) ∨ (w = 0 ∧ c = 3906) := by
  unfold chunksOf
  split
  · rename_i h
    simp only [Finset.mem_insert, Finset.mem_image, Finset.mem_range]
    exact ⟨fun e => e.elim (fun e => .inr ⟨h, e⟩) .inl, fun e => e.elim .inr (fun e => .inl e.2)⟩
  · rename_i h
    simp only [Finset.mem_image, Finset.mem_range]
    exact ⟨.inl, fun e => e.elim id (fun e => absurd e.1 h)⟩

theorem mem_own (w : ℕ) (p : S500000x128.Idx) : p ∈ own w ↔ (p 0).val / 128 ∈ chunksOf w := by
  unfold own
  simp only [Finset.mem_biUnion, mem_blk]
  constructor
  · rintro ⟨c, hc, e⟩; rw [e]; exact hc
  · intro h; exact ⟨_, h, rfl⟩

theorem chunksOf_unique (w w' c : ℕ) (hw : w < 32) (hw' : w' < 32) (h : c ∈ chunksOf w) (h' : c ∈ chunksOf w') : w = w' := by
  rw [mem_chunksOf] at h h'
  unfold nOf baseOf at h h'
  rcases h with ⟨j, hj, e⟩ | ⟨h0, e⟩ <;> rcases h' with ⟨j', hj', e'⟩ | ⟨h0', e'⟩ <;>
    try split_ifs at hj hj'
  all_goals try split_ifs at hj
  all_goals try split_ifs at hj'
  all_goals omega

theorem own_apart (w w' : ℕ) (hw : w < 32) (hw' : w' < 32) (h : w ≠ w') : Disjoint (own w) (own w') :=
  Finset.disjoint_left.mpr fun p hp hp' =>
    h (chunksOf_unique w w' _ hw hw' ((mem_own w p).mp hp) ((mem_own w' p).mp hp'))

theorem own_disjoint : ∀ w ∈ Finset.range 32, ∀ w' ∈ Finset.range 32, w ≠ w' → Disjoint (own w) (own w') := by
  intro w hw w' hw' h
  rw [Finset.mem_range] at hw hw'
  exact own_apart w w' hw hw' h

theorem chunk_owned (c : ℕ) (hc : c ≤ 3906) : ∃ w, w < 32 ∧ c ∈ chunksOf w := by
  simp only [mem_chunksOf]
  rcases Classical.em (c = 3906) with h | h
  · exact ⟨0, by decide, .inr ⟨rfl, h⟩⟩
  rcases Classical.em (c < 246) with h' | h'
  · refine ⟨c / 123, by omega, .inl ⟨c % 123, ?_, ?_⟩⟩
    · unfold nOf; split_ifs <;> omega
    · unfold baseOf; omega
  · refine ⟨(c - 2) / 122, by omega, .inl ⟨(c - 2) % 122, ?_, ?_⟩⟩
    · unfold nOf; split_ifs <;> omega
    · unfold baseOf; omega

theorem row_owned (p : S500000x128.Idx) : ∃ w, w < 32 ∧ p ∈ own w := by
  have h0 : (p 0).val < 500000 := (p 0).isLt
  have hc : (p 0).val / 128 ≤ 3906 := by omega
  obtain ⟨w, hw, hc⟩ := chunk_owned _ hc
  exact ⟨w, hw, (mem_own w p).mpr hc⟩

theorem own_cover : (Finset.range 32).biUnion own = Finset.univ := by
  ext p
  obtain ⟨w, hw, hp⟩ := row_owned p
  rw [Finset.mem_biUnion]
  refine ⟨fun _ => Finset.mem_univ _, fun _ => ⟨w, ?_, hp⟩⟩
  rw [Finset.mem_range]
  exact hw

/-- Something of every tile by number is something of every tile by core and subcore. -/
theorem bigSep_tiles (Φ : ℕ → sProp 𝕄) :
    bigSep (Finset.range 32) Φ = bigSep Finset.univ fun c : Fin 2 => bigSep Finset.univ fun i : Fin 16 => Φ (2 * i.val + c.val) := by
  rw [← bigSep_univ_prod (fun p : Fin 2 × Fin 16 => Φ (2 * p.2.val + p.1.val)),
    show Finset.range 32 = Finset.univ.image (fun p : Fin 2 × Fin 16 => 2 * p.2.val + p.1.val) by decide]
  refine SparseCore.bigSep_image_of_injOn (fun a _ b _ h => ?_) Φ
  have h1 := a.1.isLt; have h2 := b.1.isLt
  change 2 * a.2.val + a.1.val = 2 * b.2.val + b.1.val at h
  exact Prod.ext (Fin.ext (by omega)) (Fin.ext (by omega))

/-! ## What a tile is dealt -/

variable (m : (ℓ : Loc nD τ sig) → Buf (Elt F) ℓ)

abbrev xLoc (d : Dev nD) : Loc nD τ sig := (SparseCore.T d).loc main_arg0
abbrev uLoc (d : Dev nD) : Loc nD τ sig := (SparseCore.T d).loc main_arg1
abbrev iLoc (d : Dev nD) : Loc nD τ sig := (SparseCore.T d).loc main_arg2
abbrev oLoc (d : Dev nD) : Loc nD τ sig := (SparseCore.T d).loc main_v0

/-- The contents at the launch. -/
def vals (d : Dev nD) : Vals F := ⟨m (xLoc d), m (uLoc d), m (iLoc d), m (oLoc d), fun _ => (0#32 : BitVec 32)⟩

/-- The result's final contents. -/
def res (d : Dev nD) : Buf (Elt F) (oLoc d) := G (vals m d).X (vals m d).U (vals m d).I

abbrev tok (w : ℕ) : PosShare TreeShare := Transfers.shareTokN fullShare w
abbrev rest : PosShare TreeShare := Transfers.shareDrop fullShare 32

/-- Tile `w`'s shares of the arguments, and its part of the result at contents `f`. -/
abbrev piece (d : Dev nD) (w : ℕ) (f : Buf (Elt F) (oLoc d)) : sProp 𝕄 :=
  iprop((xLoc d ↦{tok w} m (xLoc d)) ∗ (uLoc d ↦{tok w} m (uLoc d)) ∗ (iLoc d ↦{tok w} m (iLoc d)) ∗ (oLoc d ↦[own w]{fullShare} f))

/-- What is dealt to no tile. -/
abbrev kept (d : Dev nD) : sProp 𝕄 :=
  iprop((xLoc d ↦{rest} m (xLoc d)) ∗ (uLoc d ↦{rest} m (uLoc d)) ∗ (iLoc d ↦{rest} m (iLoc d)))

abbrev whole (d : Dev nD) (f : Buf (Elt F) (oLoc d)) : sProp 𝕄 :=
  iprop((xLoc d ↦{fullShare} m (xLoc d)) ∗ (uLoc d ↦{fullShare} m (uLoc d)) ∗ (iLoc d ↦{fullShare} m (iLoc d)) ∗ (oLoc d ↦{fullShare} f))

theorem out_pieces (d : Dev nD) (f : Buf (Elt F) (oLoc d)) :
    (oLoc d ↦{fullShare} f : sProp 𝕄) = bigSep (Finset.range 32) fun w => oLoc d ↦[own w]{fullShare} f := by
  rw [← pointsTo_biUnion (ℓ := oLoc d) (Finset.range 32) own own_disjoint, own_cover]

/-- The arrays dealt; -/
theorem whole_deal (d : Dev nD) (f : Buf (Elt F) (oLoc d)) :
    whole m d f ⊢ iprop(kept m d ∗ bigSep (Finset.range 32) fun w => piece m d w f) := by
  unfold whole kept piece
  rw [bigSep_sep', bigSep_sep', bigSep_sep', out_pieces]
  iintro ⟨HX, HU, HI, HO⟩
  ihave HX' := (Transfers.pointsTo_toks_range fullShare 32).1 $$ HX
  icases HX' with ⟨HX, HXs⟩
  ihave HU' := (Transfers.pointsTo_toks_range fullShare 32).1 $$ HU
  icases HU' with ⟨HU, HUs⟩
  ihave HI' := (Transfers.pointsTo_toks_range fullShare 32).1 $$ HI
  icases HI' with ⟨HI, HIs⟩
  isplitl [HX HU HI]
  · isplitl [HX]; · iexact HX
    isplitl [HU]; · iexact HU
    iexact HI
  isplitl [HXs]; · iexact HXs
  isplitl [HUs]; · iexact HUs
  isplitl [HIs]; · iexact HIs
  iexact HO

/-- and put together again. -/
theorem whole_join (d : Dev nD) (f : Buf (Elt F) (oLoc d)) :
    iprop(kept m d ∗ bigSep (Finset.range 32) fun w => piece m d w f) ⊢ whole m d f := by
  unfold whole kept piece
  rw [bigSep_sep', bigSep_sep', bigSep_sep', out_pieces]
  iintro ⟨⟨HX, HU, HI⟩, HXs, HUs, HIs, HO⟩
  isplitl [HX HXs]
  · iapply (Transfers.pointsTo_toks_range fullShare 32).2
    isplitl [HX]; · iexact HX
    iexact HXs
  isplitl [HU HUs]
  · iapply (Transfers.pointsTo_toks_range fullShare 32).2
    isplitl [HU]; · iexact HU
    iexact HUs
  isplitl [HI HIs]
  · iapply (Transfers.pointsTo_toks_range fullShare 32).2
    isplitl [HI]; · iexact HI
    iexact HIs
  iexact HO

/-! ## The tile's part of the result, by chunks -/

variable (d : Dev nD) (L : grid0.Coords)

theorem own_chunks (f : S500000x128.Idx → Elt F .f32) :
    (oV.view.loc (VT d L) ↦[own (wid L)]{fullShare} f : sProp 𝕄)
      = iprop((bigSep (Finset.range (nW L)) fun j => oB d L (base L + j) f) ∗ last L (oB d L 3906 f)) := by
  have hinj : Set.InjOn (baseOf (wid L) + ·) (↑(Finset.range (nOf (wid L))) : Set ℕ) := fun a _ b _ h => Nat.add_left_cancel h
  unfold own
  rw [pointsTo_biUnion (ℓ := oV.view.loc (VT d L)) _ blk (fun c _ c' _ h => blk_disjoint c c' h)]
  unfold chunksOf last
  rcases Classical.em (wid L = 0) with h | h
  · rw [if_pos h, if_pos h, SparseCore.bigSep_insert' (by
      rw [h]; decide), SparseCore.bigSep_image_of_injOn hinj]
    exact BI.Entails.antisymm BI.sep_comm BI.sep_comm
  · rw [if_neg h, if_neg h, SparseCore.bigSep_image_of_injOn hinj]
    exact BI.Entails.antisymm BI.sep_emp_intro BI.sep_emp_elim

theorem own_init : (oV.view.loc (VT d L) ↦[own (wid L)]{fullShare} (vals m d).O : sProp 𝕄)
    = iprop(Init d L (vals m d) 0 ∗ last L (oI d L (vals m d) 3906)) := by
  unfold Init
  rw [own_chunks, ← Finset.range_eq_Ico]

theorem own_done : (oV.view.loc (VT d L) ↦[own (wid L)]{fullShare} (G (vals m d).X (vals m d).U (vals m d).I) : sProp 𝕄)
    = iprop(Done d L (vals m d) (nW L) ∗ last L (oD d L (vals m d) 3906)) := by
  unfold Done
  rw [own_chunks]

/-! ## The tile's buffers and semaphores -/

abbrev tbuf : Fin 7 → Ref sig .scVector :=
  ![cc0_scratch0, cc0_scratch1, cc0_scratch2, cc0_scratch3, cc0_scratch4, cc0_scratch5, cc0_scratch6]

theorem tbuf_inj : Function.Injective tbuf := by decide

abbrev tref (k : Fin 7) : DevRef τ sig := (Proc.scVector (cV L) (jV L)).devRef (tbuf k)

theorem tref_mem (k : Fin 7) : tref L k ∈ ownRefs (τ := τ) (.scVector (cV L) (jV L)) :=
  SparseCore.Cfg.mem_ownRefs_of_owner (by fin_cases k <;> rfl)

theorem someVal_whole (r : Ref sig .scVector) :
    (iprop(∃ f, (VT d L).loc r ↦{fullShare} f) : sProp 𝕄) = someVal d L (Memref.whole r) := by
  unfold someVal
  rw [show (Memref.whole r).view.set = Finset.univ from View.set_whole _]

/-- The tile's own buffers are the seven it names, and others. -/
theorem ownBufs_tile :
    (ownBufs (VT d L) : sProp 𝕄)
      = iprop(Bufs d L ∗ bigSep ((ownRefs (τ := τ) (.scVector (cV L) (jV L))) \ Finset.univ.image (tref L))
          fun b => iprop(∃ f, ((d, b) : Loc nD τ sig) ↦{fullShare} f)) := by
  unfold SparseCore.Cfg.ownBufs
  rw [SparseCore.bigSep_sdiff_split' (t := Finset.univ.image (tref L)) (Finset.image_subset_iff.mpr fun k _ => tref_mem L k),
    SparseCore.bigSep_image_of_injOn (fun a _ b _ h => tbuf_inj (Proc.devRef_injective _ h)),
    show (Finset.univ : Finset (Fin 7)) = {0, 1, 2, 3, 4, 5, 6} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  unfold Bufs
  rw [← someVal_whole, ← someVal_whole, ← someVal_whole, ← someVal_whole, ← someVal_whole, ← someVal_whole, ← someVal_whole]
  rfl

abbrev tsem (k : Fin 15) : DmaSem sig := ⟨k.val, k.isLt⟩
abbrev tcell (k : Fin 15) : GSem nD τ sig := (VT d L, .dma (tsem k))

theorem tcell_mem (k : Fin 15) : tcell d L k ∈ ownCells (VT d L) :=
  mem_ownCells.mpr ⟨rfl, (show ∀ s : DmaSem sig, (SemLoc.dma s : SemLoc sig).isScoped .scVector = true by decide) _⟩

/-- The tile's own semaphores are the fifteen it names, and others. -/
theorem ownSems_tile :
    (ownSems0 (VT d L) : sProp 𝕄)
      = iprop((Zeros9 d L ∗ Zeros6 d L) ∗ bigSep ((ownCells (VT d L)) \ Finset.univ.image (tcell d L)) fun g => semVal g 0) := by
  unfold SparseCore.Cfg.ownSems0
  rw [SparseCore.bigSep_sdiff_split' (t := Finset.univ.image (tcell d L)) (Finset.image_subset_iff.mpr fun k _ => tcell_mem d L k),
    SparseCore.bigSep_image_of_injOn (fun a _ b _ h => by
      have := congrArg (fun g : GSem nD τ sig => g.2) h
      simp only [SemLoc.dma.injEq, Fin.mk.injEq] at this
      exact Fin.ext this),
    show (Finset.univ : Finset (Fin 15)) = ({0, 1, 2, 3, 4, 5, 6, 7, 8} : Finset (Fin 15)) ∪ {9, 10, 11, 12, 13, 14} by decide,
    SparseCore.bigSep_union' (by decide)]
  repeat rw [SparseCore.bigSep_insert' (by decide)]
  rw [bigSep_singleton, bigSep_singleton]
  rfl

end Cert.Proof.Gadd

end
-- ==== Proof.Launch.lean ====
/-
  The launch: the arrays dealt to the tiles, the tiles' runs, and the program's run with its final memory.
-/
module

public import proofs.«01_k».proof.Proof.Deal

@[expose] public section

noncomputable section

namespace Cert.Proof.Gadd

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## What the launch hands over -/

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MT nD τ sig (HIx 1) (Elt F) ℕ UU ℕ) := embL

variable (m : (ℓ : Loc nD τ sig) → Buf (Elt F) ℓ) (ρ : Dev nD → PrngReg)

/-- A SparseCore is handed its tiles' pieces, and hands them back with the result in them. -/
def P : (K (F := F)).Pay (nD := nD) (Val := Elt F) (Name := ℕ) (U := UU) where
  st := fun q d c => match q with | 0 => bigSep Finset.univ fun i : Fin 16 => piece m d (2 * i.val + c.val) (m (oLoc d))
  dn := fun q d c => match q with | 0 => bigSep Finset.univ fun i : Fin 16 => piece m d (2 * i.val + c.val) (res m d)
  go := fun q d c i => match q with | 0 => piece m d (2 * i.val + c.val) (m (oLoc d))
  td := fun q d c i => match q with | 0 => piece m d (2 * i.val + c.val) (res m d)
  x := fun _ _ => iprop(emp)

instance P_storable : (P (F := F) m).IsStorable where
  st q d c := match q with
    | 0 => (inferInstance : BI.Storable (upEmb : UEmb _ 𝕄) (bigSep Finset.univ fun i : Fin 16 => piece m d (2 * i.val + c.val) (m (oLoc d))))
  dn q d c := match q with
    | 0 => (inferInstance : BI.Storable (upEmb : UEmb _ 𝕄) (bigSep Finset.univ fun i : Fin 16 => piece m d (2 * i.val + c.val) (res m d)))
  go q d c i := match q with
    | 0 => (inferInstance : BI.Storable (upEmb : UEmb _ 𝕄) (piece m d (2 * i.val + c.val) (m (oLoc d))))
  td q d c i := match q with
    | 0 => (inferInstance : BI.Storable (upEmb : UEmb _ 𝕄) (piece m d (2 * i.val + c.val) (res m d)))

/-! ## A tile's task -/

/-- Every row number of the launch names a row of the table. -/
def InRangeAll : Prop := ∀ d : Dev nD, InRange (vals m d).I

section Tile

variable (d : Dev nD) (L : grid0.Coords)

theorem tile_body (hF : (K (F := F)).Facts) (hI : InRangeAll m) (O : CellTallies nD τ sig (HIx 1)) (W : Waits sig (HIx 1)) (hO : ∀ g, O g none = 0) :
    iprop(levAts (K (F := F)).L (K (F := F)).lev ∗ emp ∗ piece m d (wid L) (m (oLoc d))
        ∗ scopedBufs (VT d L) ∗ scopedSems0 (VT d L) ∗ owes (VT d L) O W)
      ⊢ wp frame (wpE (defs₀ (F := F)) 𝒱₀ (VT d L) none) Set.univ (tile (F := F) L)
          fun _ => iprop(piece m d (wid L) (res m d) ∗ scopedBufs (VT d L) ∗ scopedSems0 (VT d L)
            ∗ ∃ W', ⌜∀ p ∈ W', p ∈ W ∨ p.2 = none ∨ p.2 = some (0 : Fin 1)⌝ ∗ owes (VT d L) O W') := by
  have hin : ∀ f : S500000x128.Idx → Elt F .f32, f = (vals m d).O →
      (oV.view.loc (VT d L) ↦[own (wid L)]{fullShare} f : sProp 𝕄) ⊢ iprop(Init d L (vals m d) 0 ∗ last L (oI d L (vals m d) 3906)) := by
    intro f hf; rw [hf, own_init]
  have hout : iprop(Done d L (vals m d) (nW L) ∗ last L (oD d L (vals m d) 3906))
      ⊢ (oLoc d ↦[own (wid L)]{fullShare} res m d : sProp 𝕄) := Entails.of_eq (own_done m d L).symm
  rw [(K (F := F)).scopedBufs_V hF d (cV L) (jV L), SparseCore.Cfg.scopedSems0_V (Val := Elt F) d (cV L) (jV L), ownSems_tile, ownBufs_tile]
  iintro ⟨#Hlv, -, ⟨HX, HU, HI, Ho⟩, ⟨HB, Hbufs⟩, ⟨⟨H9, H6⟩, Hsems⟩, HO⟩
  ihave Hmw := (show levAts (K (F := F)).L (K (F := F)).lev ⊢ Transfers.MayWaits (VT d L) (default : HIx 1) O from
    (K (F := F)).mayWaits_none (thr := VT d L) hO) $$ Hlv
  ihave Ho' := (hin (m (oLoc d)) rfl) $$ Ho
  icases Ho' with ⟨Hi, Hl⟩
  iapply (wp_tile (d := d) (L := L) (v := vals m d) (O := O) (hI d) (qi := tok (wid L)) (qx := tok (wid L)) (qu := tok (wid L))) $$ [HX HU HI HB H9 H6 Hi Hl HO]
  · isplitl [HI]; · iexact HI
    isplitl [HX]; · iexact HX
    isplitl [HU]; · iexact HU
    isplitl [HB]; · iexact HB
    isplitl [H9]; · iexact H9
    isplitl [H6]; · iexact H6
    isplitl [Hi]; · iexact Hi
    isplitl [Hl]; · iexact Hl
    unfold Ow
    isplitr; · iexact Hmw
    iexists W; iexact HO
  unfold Ow
  iintro ⟨HI, HX, HU, HB, H9, H6, HD, Hl, ⟨-, ⟨%W', HO⟩⟩⟩
  ihave Ho := hout $$ [HD Hl]
  · isplitl [HD]; · iexact HD
    iexact Hl
  isplitl [HX HU HI Ho]
  · isplitl [HX]; · iexact HX
    isplitl [HU]; · iexact HU
    isplitl [HI]; · iexact HI
    iexact Ho
  isplitl [HB Hbufs]
  · isplitl [HB]; · iexact HB
    iexact Hbufs
  isplitl [H9 H6 Hsems]
  · isplitl [H9 H6]
    · isplitl [H9]; · iexact H9
      iexact H6
    iexact Hsems
  iexists W'; isplitr
  · ipureintro; intro p _
    rcases p.2 with _ | q
    · exact .inr (.inl rfl)
    · exact .inr (.inr (congrArg some (Subsingleton.elim q 0)))
  · iexact HO

end Tile

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 () = SparseCore.onTile hcore0 hsub0 (fun c s => tile (F := F) (coordsV c s)) ⟨⟩ c s := rfl

theorem tileObl (hF : (K (F := F)).Facts) (hI : InRangeAll m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hF hI O W hO

theorem vecSplit : (K (F := F)).VecSplit' (P m) 0 := by
  intro d c
  show (bigSep Finset.univ fun i : Fin 16 => piece m d (2 * i.val + c.val) (m (oLoc d)))
      ⊢ |={Set.univ}=> iprop((bigSep Finset.univ fun i : Fin 16 => piece m d (2 * i.val + c.val) (m (oLoc d)))
        ∗ ((bigSep Finset.univ fun i : Fin 16 => piece m d (2 * i.val + c.val) (res m d))
          -∗ (bigSep Finset.univ fun i : Fin 16 => piece m d (2 * i.val + c.val) (res m d))))
  iintro H; imodintro
  isplitl [H]; · iexact H
  iintro H; iexact H

/-! ## The ghost state at the launch -/

def u₀ : UU := (initOf (K (F := F)).hsCells (K (F := F)).hsToks, 1)

theorem bigSep_emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emps]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emps]
  iempintro

/-! ## The program on the TensorCore -/

theorem unscopedBufs_eq (d : Dev nD) :
    (unscopedBufs d (fun b => m ((d.tc : Thread nD τ).loc b)) : sProp 𝕄) = whole m d (m (oLoc d)) := by
  unfold unscopedBufs
  rw [show (Finset.univ.filter fun b : Ref sig .tc => ¬ b.isScoped) = {main_arg0, main_arg1, main_arg2, main_v0} by decide,
    SparseCore.bigSep_insert' (by decide), SparseCore.bigSep_insert' (by decide), SparseCore.bigSep_insert' (by decide), bigSep_singleton]

theorem st_eq (d : Dev nD) : (bigSep Finset.univ fun c : Fin ((K (F := F)).nCore 0) => (P m).st 0 d c)
    = bigSep (Finset.range 32) fun w => piece m d w (m (oLoc d)) := (bigSep_tiles (F := F) fun w => piece m d w (m (oLoc d))).symm
theorem dn_eq (d : Dev nD) : (bigSep Finset.univ fun c : Fin ((K (F := F)).nCore 0) => (P m).dn 0 d c)
    = bigSep (Finset.range 32) fun w => piece m d w (res m d) := (bigSep_tiles (F := F) fun w => piece m d w (res m d)).symm

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ whole m d (res m d) ∗ (K (F := F)).tcEnd d) := by
  unfold SparseCore.Cfg.tcRes SparseCore.Cfg.tcEnd
  rw [unscopedBufs_eq]
  simp only [main, wp_bind, wp_pure]
  iintro ⟨#Hctx, Hst, ⟨Hb, Hw, Hts, -⟩, -⟩
  ihave Hw' := (whole_deal m d _) $$ Hw
  icases Hw' with ⟨Hk, Hp⟩
  iapply ((K (F := F)).wp_run (D (F := F)) 𝒱 (EH := EH) (P := P m) κ d 0) $$ [Hst Hp Hk Hb Hts]
  isplitr; · iexact Hctx
  isplitl [Hst]; · iexact Hst
  isplitl [Hp]
  · rw [st_eq]; iexact Hp
  iintro ⟨Hst, Hdn⟩
  ihave Hdn' := (Entails.of_eq (dn_eq m d)) $$ Hdn
  ihave Hw := (whole_join m d (res m d)) $$ [Hk Hdn']
  · isplitl [Hk]; · iexact Hk
    iexact Hdn'
  imodintro
  isplitl [Hst]; · iexact Hst
  isplitl [Hw]; · iexact Hw
  isplitl [Hb] <;> iassumption

def fq (d : Dev nD) (s' : Phys nD τ sig (Elt F)) : Prop :=
  s'.mem.mem (oLoc d) = res m d ∧ s'.mem.mem (xLoc d) = m (xLoc d) ∧ s'.mem.mem (uLoc d) = m (uLoc d) ∧ s'.mem.mem (iLoc d) = m (iLoc d)

theorem hfin (d : Dev nD) (s' : Phys nD τ sig (Elt F)) : iprop(whole m d (res m d) ∗ SI s') ⊢ (⌜fq m d s'⌝ : sProp 𝕄) := by
  iintro ⟨⟨HX, HU, HI, Ho⟩, HSI⟩
  ihave H := (persistent_entails_right (SI_pointsTo_agree (st := s') (ℓ := xLoc d) (I := Finset.univ) (q := fullShare) (f := m (xLoc d)))) $$ [HSI HX]
  · isplitl [HSI] <;> iassumption
  icases H with ⟨%h1, HSI, -⟩
  ihave H := (persistent_entails_right (SI_pointsTo_agree (st := s') (ℓ := uLoc d) (I := Finset.univ) (q := fullShare) (f := m (uLoc d)))) $$ [HSI HU]
  · isplitl [HSI] <;> iassumption
  icases H with ⟨%h2, HSI, -⟩
  ihave H := (persistent_entails_right (SI_pointsTo_agree (st := s') (ℓ := iLoc d) (I := Finset.univ) (q := fullShare) (f := m (iLoc d)))) $$ [HSI HI]
  · isplitl [HSI] <;> iassumption
  icases H with ⟨%h3, HSI, -⟩
  ihave H := (SI_pointsTo_agree (st := s') (ℓ := oLoc d) (I := Finset.univ) (q := fullShare) (f := res m d)) $$ [HSI Ho]
  · isplitl [HSI] <;> iassumption
  icases H with %h4
  ipureintro
  exact ⟨funext fun (i : Idx (oLoc d)) => h4 i (Finset.mem_univ i), funext fun (i : Idx (xLoc d)) => h1 i (Finset.mem_univ i),
    funext fun (i : Idx (uLoc d)) => h2 i (Finset.mem_univ i), funext fun (i : Idx (iLoc d)) => h3 i (Finset.mem_univ i)⟩

/-! ## The program's run -/

def QC : PUnit × MemSt nD τ sig (Elt F) → Prop := fun r =>
  (∀ c : Dev nD, r.2.mem (oLoc c) = res m c ∧ r.2.mem (xLoc c) = m (xLoc c) ∧ r.2.mem (uLoc c) = m (uLoc c) ∧ r.2.mem (iLoc c) = m (iLoc c))
    ∧ r.2.sem = fun _ => 0

/-- With every row number in range the program runs, ends with the result, its arguments unchanged, its semaphores at
    zero. -/
theorem run_main [∀ e, Nonempty (Elt F e)] (hI : InRangeAll m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hI)
    (fun q _ => match q with | 0 => SparseCore.Cfg.VecSplit.of_plain (vecSplit m))
    m ρ main (fun _ => iprop(emp)) (fun d => whole m d (res m d)) (u₀ (F := F)) (sep_elim_left.trans (hu₀ m)) (hmain m ρ) (fq m) (hfin m) (QC m) (fun _ h hz => ⟨h, hz⟩)

end Cert.Proof.Gadd

end
-- ==== Proof.Value.lean ====
/-
  The value: what the precondition says of the row numbers, and the reference's result as the kernel's.
-/
module

public import proofs.«01_k».proof.Proof.Launch
public import proofs.«01_k».proof.Proof.Gen.Pre_idx_in_rows
public import proofs.«01_k».proof.Proof.Gen.ReferenceIdeal.Run
public import Idealize.ShloMosaic.Lib.ReduceAll
public import Idealize.ShloMosaic.Lib.Routing.Ops

@[expose] public section

noncomputable section

namespace Cert.Proof.Gadd

open Idealize.ShloMosaic

/-! ## The row numbers -/

/-- A word at least 0 and below 100000, read signed, is below 100000 read unsigned. -/
theorem word_lt {w : BitVec 32} (h0 : (0#32 : BitVec 32).toInt ≤ w.toInt) (h1 : w.toInt < (100000#32 : BitVec 32).toInt) : w.toNat < 100000 := by
  have e0 : (0#32 : BitVec 32).toInt = 0 := by decide
  have e1 : (100000#32 : BitVec 32).toInt = 100000 := by decide
  rw [e0] at h0
  rw [e1] at h1
  rw [BitVec.toInt_eq_toNat_cond] at h0 h1
  have := w.isLt
  split at h0 <;> omega

/-- A word below 100000 reads the same signed. -/
theorem word_toInt {w : BitVec 32} (h : w.toNat < 100000) : w.toInt = w.toNat := by
  rw [BitVec.toInt_eq_toNat_cond]
  split <;> omega

instance : Subsingleton Cert.Pre_idx_in_rows.S_.Idx := ⟨fun a b => funext fun k => k.elim0⟩

/-- What the precondition states, row number by row number. -/
theorem inRange_of_pre {F : FTy → Type} [FloatOps F] (X : FVec F Cert.Pre_idx_in_rows.S100000x128 .f32) (U : FVec F Cert.Pre_idx_in_rows.S500000x128 .f32)
    (I : IVec Cert.Pre_idx_in_rows.S500000 32) (h : Cert.Pre_idx_in_rows.fn (F := F) X U I = fun _ => 1#1) (n : Cert.Pre_idx_in_rows.S500000.Idx) :
    (I n).toNat < 100000 := by
  have e := congrFun h (fun k => k.elim0)
  unfold Cert.Pre_idx_in_rows.fn at e
  have e' := Host.reduce_andi_all _ _ _ _ _ e n
  have e2 := IntOp.andi_eq_one.1 e'
  exact word_lt (IntOp.cmpi_sge.1 e2.1) (IntOp.cmpi_slt.1 e2.2)

/-! ## The reference's operations -/

open Cert.ReferenceIdeal Cert.ReferenceIdeal.Gen

variable (I : IVec S500000 32) (hI : ∀ n, (I n).toNat < 100000)

include hI

/-- No row number is negative: none is wrapped. -/
theorem wrap_eq : select (cmpi .slt I (broadcastInDim S500000 ![] bcast_S_S500000 (constantI S_ 32 0#32)))
    (addi I (broadcastInDim S500000 ![] bcast_S_S500000 (constantI S_ 32 100000#32))) I = I := by
  funext n
  have h : ¬ IntOp.cmpi .slt (I n) 0#32 = 1#1 := by
    rw [IntOp.cmpi_slt, word_toInt (hI n), show (0#32 : BitVec 32).toInt = 0 by decide]
    omega
  exact if_neg h

/-- No row is past the table: none is masked. -/
theorem mask_eq (j : S500000.Idx) :
    Host.reduce IntOp.andi (andi (cmpi .sge (broadcastInDim S500000x1 ![0] bcast_S500000_S500000x1_0 I) (broadcastInDim S500000x1 ![] bcast_S_S500000x1 (constantI S_ 32 0#32)))
        (cmpi .sle (broadcastInDim S500000x1 ![0] bcast_S500000_S500000x1_0 I)
          (broadcastInDim S500000x1 ![0, 1] bcast_S1x1_S500000x1_0_1 (broadcastInDim S1x1 ![1] bcast_S1_S1x1_1 (constantI S1 32 99999#32)))))
      (constantI S_ 1 1#1) reducesTo_S500000x1_S500000_d1 h_S_ j = 1#1 := by
  refine Host.reduce_andi_one _ _ _ _ _ rfl fun i => ?_
  refine IntOp.andi_eq_one.2 ⟨IntOp.cmpi_sge.2 ?_, IntOp.cmpi_sle.2 ?_⟩
  · show (0#32 : BitVec 32).toInt ≤ (I _).toInt
    rw [word_toInt (hI _), show (0#32 : BitVec 32).toInt = 0 by decide]
    omega
  · show (I _).toInt ≤ (99999#32 : BitVec 32).toInt
    rw [word_toInt (hI _), show (99999#32 : BitVec 32).toInt = 99999 by decide]
    refine Int.ofNat_le.2 (Nat.le_of_lt_succ ?_)
    exact hI _

/-- A row taken from the table is the row its number names. -/
theorem take_eq {α : Type} (X : S100000x128.Idx → α) (p : S500000x128.Idx) :
    Host.gather gather_S100000x128_S500000x1_S500000x128_1_0_n_n_0_1_1128 X (broadcastInDim S500000x1 ![0] bcast_S500000_S500000x1_0 I) p
      = X (ixX (I (ixI (p 0).val)).toNat (p 1).val) := by
  have h0 : (p 0).val < 500000 := (p 0).isLt
  have h1 : (p 1).val < 128 := (p 1).isLt
  have hr := hI (ixI (p 0).val)
  have ep : p = ValueIdx.ix2 (⟨(p 0).val, h0⟩ : Fin 500000) (⟨(p 1).val, h1⟩ : Fin 128) := ValueIdx.eq_ix2 p
  have hb : (broadcastInDim S500000x1 ![0] bcast_S500000_S500000x1_0 I) (ValueIdx.ix2 (⟨(p 0).val, h0⟩ : Fin 500000) (0 : Fin 1))
      = BitVec.ofNat 32 (I (ixI (p 0).val)).toNat := by
    rw [BitVec.ofNat_toNat, BitVec.setWidth_eq]
    refine congrArg I (funext fun a => Fin.ext ?_)
    fin_cases a
    exact (Nat.mod_eq_of_lt h0).symm
  have e := Routing.gather_row gather_S100000x128_S500000x1_S500000x128_1_0_n_n_0_1_1128 rfl rfl rfl rfl rfl X
    (broadcastInDim S500000x1 ![0] bcast_S500000_S500000x1_0 I) ⟨(p 0).val, h0⟩ ⟨(p 1).val, h1⟩ ⟨(I (ixI (p 0).val)).toNat, hr⟩ hb (by decide)
  refine (congrArg _ ep).trans (e.trans (congrArg X (funext fun a => Fin.ext ?_)))
  fin_cases a
  · exact (Nat.mod_eq_of_lt hr).symm
  · exact (Nat.mod_eq_of_lt h1).symm

/-- The reference's result, entry by entry, is the kernel's: the same two numbers, added in the other order. -/
theorem reference_eq (X : FVec Ideal S100000x128 .f32) (U : FVec Ideal S500000x128 .f32) :
    addf U (select (broadcastInDim S500000x128 ![0] bcast_S500000_S500000x128_0
        (Host.reduce IntOp.andi (andi (cmpi .sge (broadcastInDim S500000x1 ![0] bcast_S500000_S500000x1_0 (select (cmpi .slt I (broadcastInDim S500000 ![] bcast_S_S500000 (constantI S_ 32 0#32)))
              (addi I (broadcastInDim S500000 ![] bcast_S_S500000 (constantI S_ 32 100000#32))) I)) (broadcastInDim S500000x1 ![] bcast_S_S500000x1 (constantI S_ 32 0#32)))
            (cmpi .sle (broadcastInDim S500000x1 ![0] bcast_S500000_S500000x1_0 (select (cmpi .slt I (broadcastInDim S500000 ![] bcast_S_S500000 (constantI S_ 32 0#32)))
              (addi I (broadcastInDim S500000 ![] bcast_S_S500000 (constantI S_ 32 100000#32))) I))
              (broadcastInDim S500000x1 ![0, 1] bcast_S1x1_S500000x1_0_1 (broadcastInDim S1x1 ![1] bcast_S1_S1x1_1 (constantI S1 32 99999#32)))))
          (constantI S_ 1 1#1) reducesTo_S500000x1_S500000_d1 h_S_))
        (Host.gather gather_S100000x128_S500000x1_S500000x128_1_0_n_n_0_1_1128 X
          (broadcastInDim S500000x1 ![0] bcast_S500000_S500000x1_0 (select (cmpi .slt I (broadcastInDim S500000 ![] bcast_S_S500000 (constantI S_ 32 0#32)))
            (addi I (broadcastInDim S500000 ![] bcast_S_S500000 (constantI S_ 32 100000#32))) I)))
        (broadcastInDim S500000x128 ![] bcast_S_S500000x128 (constant S_ .f32 0x7FC00000#32)))
      = G (F := Ideal) X U I := by
  rw [wrap_eq I hI]
  funext p
  have hs : ∀ {α : Type} (c : BitVec 1) (a b : α), c = 1#1 → Scalar.select c a b = a := fun c a b h => if_pos h
  refine Eq.trans (congrArg (fun z => FloatOps.addf (F := Ideal) (φ := .f32) (U p) z) (hs _ _ _ (mask_eq I hI _))) ?_
  refine Eq.trans (congrArg (fun z => FloatOps.addf (F := Ideal) (φ := .f32) (U p) z) (take_eq I hI X p)) ?_
  exact add_comm (G := EReal) _ _

end Cert.Proof.Gadd

end
-- ==== Proof.lean ====
/-
  The certificate: the kernel and its idealization keep their inputs and leave every semaphore counter at zero,
  the reference keeps its inputs, and on equal inputs whose row numbers are in the table the idealized kernel
  and the reference end with the same output. One theorem about the kernel's run (`Proof.Launch`), stated for
  any float arithmetic, gives the first two and half of the last; `Proof.Value` ties its result to the reference's.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_idx_in_rows
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem

/-- The kernel, on words: inputs unchanged, counters at zero. -/
theorem frame_kernel : Cert.quiescent_Kernel := fun m ρ h =>
  (θ_run Cert.KernelIdeal.defs Cert.KernelIdeal.threads _).mono (fun _ hr => ⟨fun c => (hr.1 c).2, hr.2⟩)
    (Gadd.run_main (F := Bits) m ρ fun d => Gadd.inRange_of_pre _ _ _ (h d))

/-- The idealized kernel: inputs unchanged, counters at zero. -/
theorem frame_kernelIdeal : Cert.quiescent_KernelIdeal := fun m ρ h =>
  (θ_run Cert.KernelIdeal.defs Cert.KernelIdeal.threads _).mono (fun _ hr => ⟨fun c => (hr.1 c).2, hr.2⟩)
    (Gadd.run_main (F := Ideal) m ρ fun d => Gadd.inRange_of_pre _ _ _ (h d))

/-- The reference: it has no semaphores, so their counters stay where they were. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same where the row numbers are in range. -/
theorem frame_referenceIdeal_pre : Cert.quiescent_ReferenceIdeal_pre_idx_in_rows := fun m ρ _ => frame_referenceIdeal m ρ trivial

/-- The two programs' outputs are one array. -/
theorem value : Cert.algebraic_KernelIdeal_ReferenceIdeal := by
  intro m ρ m' ρ' h hm
  have hI : Gadd.InRangeAll m := fun d => Gadd.inRange_of_pre _ _ _ (h d)
  refine ⟨fun c => Gadd.res m c, ?_, ?_⟩
  · exact (θ_run Cert.KernelIdeal.defs Cert.KernelIdeal.threads _).mono (fun _ hr => hr.1) (Gadd.run_main (F := Ideal) m ρ hI)
  · refine (θ_run Cert.ReferenceIdeal.defs _ _).mono (fun r hr c => ⟨(hr c).1.trans ?_, (hr c).2⟩) (Cert.ReferenceIdeal.Value.run (F := Ideal) m' ρ')
    obtain ⟨h0, h1, h2⟩ := hm c
    rw [h0, h1, h2]
    exact Gadd.reference_eq _ (hI c) _ _

theorem claim : Cert.Claim :=
  ⟨Cert.Kernel.Gen.facts, Cert.KernelIdeal.Gen.facts, Cert.ReferenceIdeal.Gen.facts, Cert.Pre_idx_in_rows.Gen.facts,
    frame_kernel, frame_kernelIdeal, frame_referenceIdeal, frame_referenceIdeal_pre, trivial, value⟩

end Cert.Proof

end
